-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v17)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S256x4096x64 : Shape := ⟨3, ![256, 4096, 64]⟩
abbrev S3x64 : Shape := ⟨2, ![3, 64]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S256x4096x64 .f32) (main_arg1 : FVec F S3x64 .f32) (main_arg2 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 32 := constantI S_ 32 3#32
  let main_v2 : IVec S4096 32 := broadcastInDim S4096 ![] bcast_S_S4096 main_c_0
  let main_v3 : IVec S4096 1 := cmpi .slt main_arg2 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S256x4096x64 : Shape := ⟨3, ![256, 4096, 64]⟩
abbrev S3x64 : Shape := ⟨2, ![3, 64]⟩
abbrev S4096 : Shape := ⟨1, ![4096]⟩
abbrev S256x64x4096 : Shape := ⟨3, ![256, 64, 4096]⟩
abbrev S64x3 : Shape := ⟨2, ![64, 3]⟩
abbrev S64x3x1 : Shape := ⟨3, ![64, 3, 1]⟩
abbrev S64x3x1x16 : Shape := ⟨4, ![64, 3, 1, 16]⟩
abbrev S64x3x16 : Shape := ⟨3, ![64, 3, 16]⟩
abbrev S64x48 : Shape := ⟨2, ![64, 48]⟩
abbrev S512 : Shape := ⟨1, ![512]⟩
abbrev S64x512 : Shape := ⟨2, ![64, 512]⟩
abbrev S_ : Shape := ⟨0, ![]⟩
abbrev S16 : Shape := ⟨1, ![16]⟩
abbrev S1 : Shape := ⟨1, ![1]⟩
abbrev S1x16 : Shape := ⟨2, ![1, 16]⟩
abbrev S1x64x512 : Shape := ⟨3, ![1, 64, 512]⟩
abbrev S64x5 : Shape := ⟨2, ![64, 5]⟩
abbrev S64x8 : Shape := ⟨2, ![64, 8]⟩
abbrev S1x4096 : Shape := ⟨2, ![1, 4096]⟩
abbrev S1x64x4096 : Shape := ⟨3, ![1, 64, 4096]⟩
abbrev S64x4096 : Shape := ⟨2, ![64, 4096]⟩
abbrev S64x1 : Shape := ⟨2, ![64, 1]⟩
abbrev S256x4096 : Shape := ⟨2, ![256, 4096]⟩

abbrev nBuf : Table → Nat
  | .hbm => 24
  | .local .tc .vmem => 5
  | .local .scVector .vmem => 5
  | _ => 0

abbrev bufTy : (tb : Table) → Fin (nBuf tb) → BufTy
  | .hbm, ⟨0, _⟩ => ⟨S256x4096x64, .f32⟩
  | .hbm, ⟨1, _⟩ => ⟨S3x64, .f32⟩
  | .hbm, ⟨2, _⟩ => ⟨S4096, .i32⟩
  | .hbm, ⟨3, _⟩ => ⟨S256x64x4096, .f32⟩
  | .hbm, ⟨4, _⟩ => ⟨S64x3, .f32⟩
  | .hbm, ⟨5, _⟩ => ⟨S64x3x1, .f32⟩
  | .hbm, ⟨6, _⟩ => ⟨S64x3x1x16, .f32⟩
  | .hbm, ⟨7, _⟩ => ⟨S64x3x16, .f32⟩
  | .hbm, ⟨8, _⟩ => ⟨S64x48, .f32⟩
  | .hbm, ⟨9, _⟩ => ⟨S256x64x4096, .f32⟩
  | .hbm, ⟨10, _⟩ => ⟨S256x64x4096, .f32⟩
  | .hbm, ⟨11, _⟩ => ⟨S64x3, .f32⟩
  | .hbm, ⟨12, _⟩ => ⟨S_, .f32⟩
  | .hbm, ⟨13, _⟩ => ⟨S64x5, .f32⟩
  | .hbm, ⟨14, _⟩ => ⟨S64x8, .f32⟩
  | .hbm, ⟨15, _⟩ => ⟨S1x4096, .i32⟩
  | .hbm, ⟨16, _⟩ => ⟨S256x64x4096, .f32⟩
  | .hbm, ⟨17, _⟩ => ⟨S1x4096, .i32⟩
  | .hbm, ⟨18, _⟩ => ⟨S256x4096, .i32⟩
  | .hbm, ⟨19, _⟩ => ⟨S_, .i1⟩
  | .hbm, ⟨20, _⟩ => ⟨S256x4096, .i1⟩
  | .hbm, ⟨21, _⟩ => ⟨S256x4096x64, .f32⟩
  | .hbm, ⟨22, _⟩ => ⟨S256x4096x64, .f32⟩
  | .hbm, ⟨23, _⟩ => ⟨S256x4096x64, .f32⟩
  | .local .tc .vmem, ⟨0, _⟩ => ⟨S1x4096, .i32⟩
  | .local .tc .vmem, ⟨1, _⟩ => ⟨S64x8, .f32⟩
  | .local .tc .vmem, ⟨2, _⟩ => ⟨S1x64x4096, .f32⟩
  | .local .tc .vmem, ⟨3, _⟩ => ⟨S1x64x4096, .f32⟩
  | .local .tc .vmem, ⟨4, _⟩ => ⟨S64x4096, .f32⟩
  | .local .scVector .vmem, ⟨0, _⟩ => ⟨S512, .i32⟩
  | .local .scVector .vmem, ⟨1, _⟩ => ⟨S64x48, .f32⟩
  | .local .scVector .vmem, ⟨2, _⟩ => ⟨S64x512, .f32⟩
  | .local .scVector .vmem, ⟨3, _⟩ => ⟨S64x512, .f32⟩
  | .local .scVector .vmem, ⟨4, _⟩ => ⟨S64x512, .f32⟩
  | _, _ => ⟨S256x4096x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v0_scv : Ref sig .scVector := ⟨.hbm, 3, rfl⟩
abbrev main_v5_scv : Ref sig .scVector := ⟨.hbm, 8, rfl⟩
abbrev main_arg2_scv : Ref sig .scVector := ⟨.hbm, 2, rfl⟩
abbrev main_v6_0_scv : Ref sig .scVector := ⟨.hbm, 9, rfl⟩
abbrev main_v6_1_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_scratch0 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 8
abbrev cc1_sem1_0 : DmaSem sig := 9
abbrev cc1_sem2_0 : DmaSem sig := 10
abbrev cc1_sem2_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![v12.toNat]
@[reducible] def k0_t1_loop : Scf.Loop 32 :=
  let c0_i32_11 : BitVec 32 := 0#32
  let c64_i32_12 : BitVec 32 := 64#32
  let v210 : BitVec 32 := Scalar.addi c0_i32_11 c64_i32_12
  let c1_i32_13 : BitVec 32 := 1#32
  ⟨c0_i32_11, v210, c1_i32_13⟩
def k0_off2 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v298 : Index := Scalar.indexCast arg18
  let c0_25 : Index := 0#32
  ![v298.toNat, 0]
def k0_off3 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v303 : Index := Scalar.indexCast arg18
  let c16_27 : Index := 16#32
  ![v303.toNat, 16]
def k0_off4 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v306 : Index := Scalar.indexCast arg18
  let c32_28 : Index := 32#32
  ![v306.toNat, 32]
def k0_off5 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v311 : Index := Scalar.indexCast arg18
  let c0_29 : Index := 0#32
  ![v311.toNat, 0]
def k0_off6 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v332 : Index := Scalar.indexCast arg18
  let c16_36 : Index := 16#32
  ![v332.toNat, 16]
def k0_off7 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v353 : Index := Scalar.indexCast arg18
  let c32_43 : Index := 32#32
  ![v353.toNat, 32]
def k0_off8 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v374 : Index := Scalar.indexCast arg18
  let c48_50 : Index := 48#32
  ![v374.toNat, 48]
def k0_off9 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v395 : Index := Scalar.indexCast arg18
  let c64_57 : Index := 64#32
  ![v395.toNat, 64]
def k0_off10 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v416 : Index := Scalar.indexCast arg18
  let c80_64 : Index := 80#32
  ![v416.toNat, 80]
def k0_off11 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v437 : Index := Scalar.indexCast arg18
  let c96_71 : Index := 96#32
  ![v437.toNat, 96]
def k0_off12 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v458 : Index := Scalar.indexCast arg18
  let c112_78 : Index := 112#32
  ![v458.toNat, 112]
def k0_off13 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v479 : Index := Scalar.indexCast arg18
  let c128_85 : Index := 128#32
  ![v479.toNat, 128]
def k0_off14 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v500 : Index := Scalar.indexCast arg18
  let c144_92 : Index := 144#32
  ![v500.toNat, 144]
def k0_off15 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v521 : Index := Scalar.indexCast arg18
  let c160_99 : Index := 160#32
  ![v521.toNat, 160]
def k0_off16 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v542 : Index := Scalar.indexCast arg18
  let c176_106 : Index := 176#32
  ![v542.toNat, 176]
def k0_off17 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v563 : Index := Scalar.indexCast arg18
  let c192_113 : Index := 192#32
  ![v563.toNat, 192]
def k0_off18 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v584 : Index := Scalar.indexCast arg18
  let c208_120 : Index := 208#32
  ![v584.toNat, 208]
def k0_off19 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v605 : Index := Scalar.indexCast arg18
  let c224_127 : Index := 224#32
  ![v605.toNat, 224]
def k0_off20 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v626 : Index := Scalar.indexCast arg18
  let c240_134 : Index := 240#32
  ![v626.toNat, 240]
def k0_off21 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v647 : Index := Scalar.indexCast arg18
  let c256_141 : Index := 256#32
  ![v647.toNat, 256]
def k0_off22 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v668 : Index := Scalar.indexCast arg18
  let c272_148 : Index := 272#32
  ![v668.toNat, 272]
def k0_off23 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v689 : Index := Scalar.indexCast arg18
  let c288_155 : Index := 288#32
  ![v689.toNat, 288]
def k0_off24 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v710 : Index := Scalar.indexCast arg18
  let c304_162 : Index := 304#32
  ![v710.toNat, 304]
def k0_off25 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v731 : Index := Scalar.indexCast arg18
  let c320_169 : Index := 320#32
  ![v731.toNat, 320]
def k0_off26 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v752 : Index := Scalar.indexCast arg18
  let c336_176 : Index := 336#32
  ![v752.toNat, 336]
def k0_off27 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v773 : Index := Scalar.indexCast arg18
  let c352_183 : Index := 352#32
  ![v773.toNat, 352]
def k0_off28 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v794 : Index := Scalar.indexCast arg18
  let c368_190 : Index := 368#32
  ![v794.toNat, 368]
def k0_off29 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v815 : Index := Scalar.indexCast arg18
  let c384_197 : Index := 384#32
  ![v815.toNat, 384]
def k0_off30 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v836 : Index := Scalar.indexCast arg18
  let c400_204 : Index := 400#32
  ![v836.toNat, 400]
def k0_off31 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v857 : Index := Scalar.indexCast arg18
  let c416_211 : Index := 416#32
  ![v857.toNat, 416]
def k0_off32 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v878 : Index := Scalar.indexCast arg18
  let c432_218 : Index := 432#32
  ![v878.toNat, 432]
def k0_off33 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v899 : Index := Scalar.indexCast arg18
  let c448_225 : Index := 448#32
  ![v899.toNat, 448]
def k0_off34 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v920 : Index := Scalar.indexCast arg18
  let c464_232 : Index := 464#32
  ![v920.toNat, 464]
def k0_off35 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v941 : Index := Scalar.indexCast arg18
  let c480_239 : Index := 480#32
  ![v941.toNat, 480]
def k0_off36 (k0_t1 : Fin k0_t1_loop.trips) : Fin 2 → Nat :=
  let c0_i32_11 : BitVec 32 := 0#32
  let c1_i32_13 : BitVec 32 := 1#32
  let arg18 : BitVec 32 := Scf.iv c0_i32_11 c1_i32_13 k0_t1
  let v962 : Index := Scalar.indexCast arg18
  let c496_246 : Index := 496#32
  ![v962.toNat, 496]
def k0_off37 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c8_i32_3 : BitVec 32 := 8#32
  let c0_i32_6 : BitVec 32 := 0#32
  let v19 : BitVec 1 := Scalar.cmpi .sgt c8_i32_3 c0_i32_6
  let v20 : BitVec 32 := Scalar.extui v19
  let c0_i32_7 : BitVec 32 := 0#32
  let v21 : BitVec 1 := Scalar.cmpi .slt c8_i32_3 c0_i32_7
  let v22 : BitVec 32 := Scalar.extui v21
  let v23 : BitVec 32 := Scalar.subi v20 v22
  let v24 : BitVec 1 := Scalar.cmpi .ne v18 v23
  let v25 : BitVec 32 := Scalar.remsi v1 c8_i32_3
  let c0_i32_8 : BitVec 32 := 0#32
  let v26 : BitVec 1 := Scalar.cmpi .ne v25 c0_i32_8
  let v27 : BitVec 1 := Scalar.andi v24 v26
  let v13 : BitVec 32 := Scalar.divsi v1 c8_i32_3
  let c1_i32_9 : BitVec 32 := 1#32
  let v28 : BitVec 32 := Scalar.subi v13 c1_i32_9
  let v29 : BitVec 32 := Scalar.select v27 v28 v13
  let c64_i32 : BitVec 32 := 64#32
  let v30 : BitVec 32 := Scalar.muli v29 c64_i32
  let c0_i32_15 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![v30.toNat, 0, v12.toNat]
@[reducible] def k0_t2_loop : Scf.Loop 32 :=
  let c0_i32_18 : BitVec 32 := 0#32
  let c32_i32 : BitVec 32 := 32#32
  let v288 : BitVec 32 := Scalar.addi c0_i32_18 c32_i32
  let c1_i32_19 : BitVec 32 := 1#32
  ⟨c0_i32_18, v288, c1_i32_19⟩
def k0_cond1 (k0_t2 : Fin k0_t2_loop.trips) : BitVec 1 :=
  let c0_i32_18 : BitVec 32 := 0#32
  let c1_i32_19 : BitVec 32 := 1#32
  let arg18 : BitVec 32 := Scf.iv c0_i32_18 c1_i32_19 k0_t2
  let c0_i32_25 : BitVec 32 := 0#32
  let v297 : BitVec 1 := Scalar.cmpi .sgt arg18 c0_i32_25
  let v298 : BitVec 32 := Scalar.extui v297
  let c0_i32_26 : BitVec 32 := 0#32
  let v299 : BitVec 1 := Scalar.cmpi .ne v298 c0_i32_26
  v299

def k0_off38 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c8_i32_3 : BitVec 32 := 8#32
  let c0_i32_6 : BitVec 32 := 0#32
  let v19 : BitVec 1 := Scalar.cmpi .sgt c8_i32_3 c0_i32_6
  let v20 : BitVec 32 := Scalar.extui v19
  let c0_i32_7 : BitVec 32 := 0#32
  let v21 : BitVec 1 := Scalar.cmpi .slt c8_i32_3 c0_i32_7
  let v22 : BitVec 32 := Scalar.extui v21
  let v23 : BitVec 32 := Scalar.subi v20 v22
  let v24 : BitVec 1 := Scalar.cmpi .ne v18 v23
  let v25 : BitVec 32 := Scalar.remsi v1 c8_i32_3
  let c0_i32_8 : BitVec 32 := 0#32
  let v26 : BitVec 1 := Scalar.cmpi .ne v25 c0_i32_8
  let v27 : BitVec 1 := Scalar.andi v24 v26
  let v13 : BitVec 32 := Scalar.divsi v1 c8_i32_3
  let c1_i32_9 : BitVec 32 := 1#32
  let v28 : BitVec 32 := Scalar.subi v13 c1_i32_9
  let v29 : BitVec 32 := Scalar.select v27 v28 v13
  let c64_i32 : BitVec 32 := 64#32
  let v30 : BitVec 32 := Scalar.muli v29 c64_i32
  let c2_i32_23 : BitVec 32 := 2#32
  let c0_i32_18 : BitVec 32 := 0#32
  let c1_i32_19 : BitVec 32 := 1#32
  let arg18 : BitVec 32 := Scf.iv c0_i32_18 c1_i32_19 k0_t2
  let v294 : BitVec 32 := Scalar.muli c2_i32_23 arg18
  let v295 : BitVec 32 := Scalar.addi v30 v294
  let c1_i32_24 : BitVec 32 := 1#32
  let v296 : BitVec 32 := Scalar.addi v295 c1_i32_24
  let c0_i32_54 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![v296.toNat, 0, v12.toNat]
def k0_off39 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c8_i32_3 : BitVec 32 := 8#32
  let c0_i32_6 : BitVec 32 := 0#32
  let v19 : BitVec 1 := Scalar.cmpi .sgt c8_i32_3 c0_i32_6
  let v20 : BitVec 32 := Scalar.extui v19
  let c0_i32_7 : BitVec 32 := 0#32
  let v21 : BitVec 1 := Scalar.cmpi .slt c8_i32_3 c0_i32_7
  let v22 : BitVec 32 := Scalar.extui v21
  let v23 : BitVec 32 := Scalar.subi v20 v22
  let v24 : BitVec 1 := Scalar.cmpi .ne v18 v23
  let v25 : BitVec 32 := Scalar.remsi v1 c8_i32_3
  let c0_i32_8 : BitVec 32 := 0#32
  let v26 : BitVec 1 := Scalar.cmpi .ne v25 c0_i32_8
  let v27 : BitVec 1 := Scalar.andi v24 v26
  let v13 : BitVec 32 := Scalar.divsi v1 c8_i32_3
  let c1_i32_9 : BitVec 32 := 1#32
  let v28 : BitVec 32 := Scalar.subi v13 c1_i32_9
  let v29 : BitVec 32 := Scalar.select v27 v28 v13
  let c64_i32 : BitVec 32 := 64#32
  let v30 : BitVec 32 := Scalar.muli v29 c64_i32
  let c2_i32_23 : BitVec 32 := 2#32
  let c0_i32_18 : BitVec 32 := 0#32
  let c1_i32_19 : BitVec 32 := 1#32
  let arg18 : BitVec 32 := Scf.iv c0_i32_18 c1_i32_19 k0_t2
  let v294 : BitVec 32 := Scalar.muli c2_i32_23 arg18
  let v295 : BitVec 32 := Scalar.addi v30 v294
  let c1_i32_24 : BitVec 32 := 1#32
  let v296 : BitVec 32 := Scalar.addi v295 c1_i32_24
  let c0_i32_27 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![v296.toNat, 0, v12.toNat]
def k0_off40 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c8_i32_3 : BitVec 32 := 8#32
  let c0_i32_6 : BitVec 32 := 0#32
  let v19 : BitVec 1 := Scalar.cmpi .sgt c8_i32_3 c0_i32_6
  let v20 : BitVec 32 := Scalar.extui v19
  let c0_i32_7 : BitVec 32 := 0#32
  let v21 : BitVec 1 := Scalar.cmpi .slt c8_i32_3 c0_i32_7
  let v22 : BitVec 32 := Scalar.extui v21
  let v23 : BitVec 32 := Scalar.subi v20 v22
  let v24 : BitVec 1 := Scalar.cmpi .ne v18 v23
  let v25 : BitVec 32 := Scalar.remsi v1 c8_i32_3
  let c0_i32_8 : BitVec 32 := 0#32
  let v26 : BitVec 1 := Scalar.cmpi .ne v25 c0_i32_8
  let v27 : BitVec 1 := Scalar.andi v24 v26
  let v13 : BitVec 32 := Scalar.divsi v1 c8_i32_3
  let c1_i32_9 : BitVec 32 := 1#32
  let v28 : BitVec 32 := Scalar.subi v13 c1_i32_9
  let v29 : BitVec 32 := Scalar.select v27 v28 v13
  let c64_i32 : BitVec 32 := 64#32
  let v30 : BitVec 32 := Scalar.muli v29 c64_i32
  let c2_i32_23 : BitVec 32 := 2#32
  let c0_i32_18 : BitVec 32 := 0#32
  let c1_i32_19 : BitVec 32 := 1#32
  let arg18 : BitVec 32 := Scf.iv c0_i32_18 c1_i32_19 k0_t2
  let v294 : BitVec 32 := Scalar.muli c2_i32_23 arg18
  let v295 : BitVec 32 := Scalar.addi v30 v294
  let c0_i32_29 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![v295.toNat, 0, v12.toNat]
@[reducible] def k0_t3_loop : Scf.Loop 32 :=
  let c0_i32_55 : BitVec 32 := 0#32
  let c64_i32_56 : BitVec 32 := 64#32
  let v353 : BitVec 32 := Scalar.addi c0_i32_55 c64_i32_56
  let c1_i32_57 : BitVec 32 := 1#32
  ⟨c0_i32_55, v353, c1_i32_57⟩
def k0_off41 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v355 : Index := Scalar.indexCast arg20
  let c0_59 : Index := 0#32
  ![v355.toNat, 0]
def k0_off42 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v366 : Index := Scalar.indexCast arg20
  let c16_62 : Index := 16#32
  ![v366.toNat, 16]
def k0_off43 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v374 : Index := Scalar.indexCast arg20
  let c32_64 : Index := 32#32
  ![v374.toNat, 32]
def k0_off44 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v382 : Index := Scalar.indexCast arg20
  let c48_66 : Index := 48#32
  ![v382.toNat, 48]
def k0_off45 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v390 : Index := Scalar.indexCast arg20
  let c64_68 : Index := 64#32
  ![v390.toNat, 64]
def k0_off46 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v398 : Index := Scalar.indexCast arg20
  let c80_70 : Index := 80#32
  ![v398.toNat, 80]
def k0_off47 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v406 : Index := Scalar.indexCast arg20
  let c96_72 : Index := 96#32
  ![v406.toNat, 96]
def k0_off48 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v414 : Index := Scalar.indexCast arg20
  let c112_74 : Index := 112#32
  ![v414.toNat, 112]
def k0_off49 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v422 : Index := Scalar.indexCast arg20
  let c128_76 : Index := 128#32
  ![v422.toNat, 128]
def k0_off50 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v430 : Index := Scalar.indexCast arg20
  let c144_78 : Index := 144#32
  ![v430.toNat, 144]
def k0_off51 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v438 : Index := Scalar.indexCast arg20
  let c160_80 : Index := 160#32
  ![v438.toNat, 160]
def k0_off52 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v446 : Index := Scalar.indexCast arg20
  let c176_82 : Index := 176#32
  ![v446.toNat, 176]
def k0_off53 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v454 : Index := Scalar.indexCast arg20
  let c192_84 : Index := 192#32
  ![v454.toNat, 192]
def k0_off54 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v462 : Index := Scalar.indexCast arg20
  let c208_86 : Index := 208#32
  ![v462.toNat, 208]
def k0_off55 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v470 : Index := Scalar.indexCast arg20
  let c224_88 : Index := 224#32
  ![v470.toNat, 224]
def k0_off56 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v478 : Index := Scalar.indexCast arg20
  let c240_90 : Index := 240#32
  ![v478.toNat, 240]
def k0_off57 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v486 : Index := Scalar.indexCast arg20
  let c256_92 : Index := 256#32
  ![v486.toNat, 256]
def k0_off58 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v494 : Index := Scalar.indexCast arg20
  let c272_94 : Index := 272#32
  ![v494.toNat, 272]
def k0_off59 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v502 : Index := Scalar.indexCast arg20
  let c288_96 : Index := 288#32
  ![v502.toNat, 288]
def k0_off60 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v510 : Index := Scalar.indexCast arg20
  let c304_98 : Index := 304#32
  ![v510.toNat, 304]
def k0_off61 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v518 : Index := Scalar.indexCast arg20
  let c320_100 : Index := 320#32
  ![v518.toNat, 320]
def k0_off62 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v526 : Index := Scalar.indexCast arg20
  let c336_102 : Index := 336#32
  ![v526.toNat, 336]
def k0_off63 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v534 : Index := Scalar.indexCast arg20
  let c352_104 : Index := 352#32
  ![v534.toNat, 352]
def k0_off64 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v542 : Index := Scalar.indexCast arg20
  let c368_106 : Index := 368#32
  ![v542.toNat, 368]
def k0_off65 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v550 : Index := Scalar.indexCast arg20
  let c384_108 : Index := 384#32
  ![v550.toNat, 384]
def k0_off66 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v558 : Index := Scalar.indexCast arg20
  let c400_110 : Index := 400#32
  ![v558.toNat, 400]
def k0_off67 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v566 : Index := Scalar.indexCast arg20
  let c416_112 : Index := 416#32
  ![v566.toNat, 416]
def k0_off68 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v574 : Index := Scalar.indexCast arg20
  let c432_114 : Index := 432#32
  ![v574.toNat, 432]
def k0_off69 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v582 : Index := Scalar.indexCast arg20
  let c448_116 : Index := 448#32
  ![v582.toNat, 448]
def k0_off70 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v590 : Index := Scalar.indexCast arg20
  let c464_118 : Index := 464#32
  ![v590.toNat, 464]
def k0_off71 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v598 : Index := Scalar.indexCast arg20
  let c480_120 : Index := 480#32
  ![v598.toNat, 480]
def k0_off72 (k0_t3 : Fin k0_t3_loop.trips) : Fin 2 → Nat :=
  let c0_i32_55 : BitVec 32 := 0#32
  let c1_i32_57 : BitVec 32 := 1#32
  let arg20 : BitVec 32 := Scf.iv c0_i32_55 c1_i32_57 k0_t3
  let v606 : Index := Scalar.indexCast arg20
  let c496_122 : Index := 496#32
  ![v606.toNat, 496]
@[reducible] def k0_t4_loop : Scf.Loop 32 :=
  let c0_i32_55 : BitVec 32 := 0#32
  let c64_i32_56 : BitVec 32 := 64#32
  let v353 : BitVec 32 := Scalar.addi c0_i32_55 c64_i32_56
  let c1_i32_57 : BitVec 32 := 1#32
  ⟨c0_i32_55, v353, c1_i32_57⟩
def k0_off73 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v355 : Index := Scalar.indexCast arg20
  let c0_59 : Index := 0#32
  ![v355.toNat, 0]
def k0_off74 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v366 : Index := Scalar.indexCast arg20
  let c16_62 : Index := 16#32
  ![v366.toNat, 16]
def k0_off75 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v377 : Index := Scalar.indexCast arg20
  let c32_65 : Index := 32#32
  ![v377.toNat, 32]
def k0_off76 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v388 : Index := Scalar.indexCast arg20
  let c48_68 : Index := 48#32
  ![v388.toNat, 48]
def k0_off77 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v399 : Index := Scalar.indexCast arg20
  let c64_71 : Index := 64#32
  ![v399.toNat, 64]
def k0_off78 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v410 : Index := Scalar.indexCast arg20
  let c80_74 : Index := 80#32
  ![v410.toNat, 80]
def k0_off79 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v421 : Index := Scalar.indexCast arg20
  let c96_77 : Index := 96#32
  ![v421.toNat, 96]
def k0_off80 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v432 : Index := Scalar.indexCast arg20
  let c112_80 : Index := 112#32
  ![v432.toNat, 112]
def k0_off81 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v443 : Index := Scalar.indexCast arg20
  let c128_83 : Index := 128#32
  ![v443.toNat, 128]
def k0_off82 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v454 : Index := Scalar.indexCast arg20
  let c144_86 : Index := 144#32
  ![v454.toNat, 144]
def k0_off83 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v465 : Index := Scalar.indexCast arg20
  let c160_89 : Index := 160#32
  ![v465.toNat, 160]
def k0_off84 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v476 : Index := Scalar.indexCast arg20
  let c176_92 : Index := 176#32
  ![v476.toNat, 176]
def k0_off85 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v487 : Index := Scalar.indexCast arg20
  let c192_95 : Index := 192#32
  ![v487.toNat, 192]
def k0_off86 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v498 : Index := Scalar.indexCast arg20
  let c208_98 : Index := 208#32
  ![v498.toNat, 208]
def k0_off87 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v509 : Index := Scalar.indexCast arg20
  let c224_101 : Index := 224#32
  ![v509.toNat, 224]
def k0_off88 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v520 : Index := Scalar.indexCast arg20
  let c240_104 : Index := 240#32
  ![v520.toNat, 240]
def k0_off89 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v531 : Index := Scalar.indexCast arg20
  let c256_107 : Index := 256#32
  ![v531.toNat, 256]
def k0_off90 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v542 : Index := Scalar.indexCast arg20
  let c272_110 : Index := 272#32
  ![v542.toNat, 272]
def k0_off91 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v553 : Index := Scalar.indexCast arg20
  let c288_113 : Index := 288#32
  ![v553.toNat, 288]
def k0_off92 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v564 : Index := Scalar.indexCast arg20
  let c304_116 : Index := 304#32
  ![v564.toNat, 304]
def k0_off93 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v575 : Index := Scalar.indexCast arg20
  let c320_119 : Index := 320#32
  ![v575.toNat, 320]
def k0_off94 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v586 : Index := Scalar.indexCast arg20
  let c336_122 : Index := 336#32
  ![v586.toNat, 336]
def k0_off95 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v597 : Index := Scalar.indexCast arg20
  let c352_125 : Index := 352#32
  ![v597.toNat, 352]
def k0_off96 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v608 : Index := Scalar.indexCast arg20
  let c368_128 : Index := 368#32
  ![v608.toNat, 368]
def k0_off97 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v619 : Index := Scalar.indexCast arg20
  let c384_131 : Index := 384#32
  ![v619.toNat, 384]
def k0_off98 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v630 : Index := Scalar.indexCast arg20
  let c400_134 : Index := 400#32
  ![v630.toNat, 400]
def k0_off99 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v641 : Index := Scalar.indexCast arg20
  let c416_137 : Index := 416#32
  ![v641.toNat, 416]
def k0_off100 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v652 : Index := Scalar.indexCast arg20
  let c432_140 : Index := 432#32
  ![v652.toNat, 432]
def k0_off101 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v663 : Index := Scalar.indexCast arg20
  let c448_143 : Index := 448#32
  ![v663.toNat, 448]
def k0_off102 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v674 : Index := Scalar.indexCast arg20
  let c464_146 : Index := 464#32
  ![v674.toNat, 464]
def k0_off103 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v685 : Index := Scalar.indexCast arg20
  let c480_149 : Index := 480#32
  ![v685.toNat, 480]
def k0_off104 (k0_t4 : Fin k0_t4_loop.trips) : Fin 2 → Nat :=
  let c0_i32_55 : BitVec 32 := 0#32
  let c1_i32_57 : BitVec 32 := 1#32
  let arg20 : BitVec 32 := Scf.iv c0_i32_55 c1_i32_57 k0_t4
  let v696 : Index := Scalar.indexCast arg20
  let c496_152 : Index := 496#32
  ![v696.toNat, 496]
def k0_off105 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c8_i32_3 : BitVec 32 := 8#32
  let c0_i32_6 : BitVec 32 := 0#32
  let v19 : BitVec 1 := Scalar.cmpi .sgt c8_i32_3 c0_i32_6
  let v20 : BitVec 32 := Scalar.extui v19
  let c0_i32_7 : BitVec 32 := 0#32
  let v21 : BitVec 1 := Scalar.cmpi .slt c8_i32_3 c0_i32_7
  let v22 : BitVec 32 := Scalar.extui v21
  let v23 : BitVec 32 := Scalar.subi v20 v22
  let v24 : BitVec 1 := Scalar.cmpi .ne v18 v23
  let v25 : BitVec 32 := Scalar.remsi v1 c8_i32_3
  let c0_i32_8 : BitVec 32 := 0#32
  let v26 : BitVec 1 := Scalar.cmpi .ne v25 c0_i32_8
  let v27 : BitVec 1 := Scalar.andi v24 v26
  let v13 : BitVec 32 := Scalar.divsi v1 c8_i32_3
  let c1_i32_9 : BitVec 32 := 1#32
  let v28 : BitVec 32 := Scalar.subi v13 c1_i32_9
  let v29 : BitVec 32 := Scalar.select v27 v28 v13
  let c64_i32 : BitVec 32 := 64#32
  let v30 : BitVec 32 := Scalar.muli v29 c64_i32
  let c2_i32_23 : BitVec 32 := 2#32
  let c0_i32_18 : BitVec 32 := 0#32
  let c1_i32_19 : BitVec 32 := 1#32
  let arg18 : BitVec 32 := Scf.iv c0_i32_18 c1_i32_19 k0_t2
  let v294 : BitVec 32 := Scalar.muli c2_i32_23 arg18
  let v295 : BitVec 32 := Scalar.addi v30 v294
  let c0_i32_37 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![v295.toNat, 0, v12.toNat]
def k0_off106 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c8_i32_3 : BitVec 32 := 8#32
  let c0_i32_6 : BitVec 32 := 0#32
  let v19 : BitVec 1 := Scalar.cmpi .sgt c8_i32_3 c0_i32_6
  let v20 : BitVec 32 := Scalar.extui v19
  let c0_i32_7 : BitVec 32 := 0#32
  let v21 : BitVec 1 := Scalar.cmpi .slt c8_i32_3 c0_i32_7
  let v22 : BitVec 32 := Scalar.extui v21
  let v23 : BitVec 32 := Scalar.subi v20 v22
  let v24 : BitVec 1 := Scalar.cmpi .ne v18 v23
  let v25 : BitVec 32 := Scalar.remsi v1 c8_i32_3
  let c0_i32_8 : BitVec 32 := 0#32
  let v26 : BitVec 1 := Scalar.cmpi .ne v25 c0_i32_8
  let v27 : BitVec 1 := Scalar.andi v24 v26
  let v13 : BitVec 32 := Scalar.divsi v1 c8_i32_3
  let c1_i32_9 : BitVec 32 := 1#32
  let v28 : BitVec 32 := Scalar.subi v13 c1_i32_9
  let v29 : BitVec 32 := Scalar.select v27 v28 v13
  let c64_i32 : BitVec 32 := 64#32
  let v30 : BitVec 32 := Scalar.muli v29 c64_i32
  let c2_i32_23 : BitVec 32 := 2#32
  let c0_i32_18 : BitVec 32 := 0#32
  let c1_i32_19 : BitVec 32 := 1#32
  let arg18 : BitVec 32 := Scf.iv c0_i32_18 c1_i32_19 k0_t2
  let v294 : BitVec 32 := Scalar.muli c2_i32_23 arg18
  let v295 : BitVec 32 := Scalar.addi v30 v294
  let c1_i32_24 : BitVec 32 := 1#32
  let v296 : BitVec 32 := Scalar.addi v295 c1_i32_24
  let c0_i32_39 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![v296.toNat, 0, v12.toNat]
def k0_cond4 (k0_t2 : Fin k0_t2_loop.trips) : BitVec 1 :=
  let c0_i32_18 : BitVec 32 := 0#32
  let c1_i32_19 : BitVec 32 := 1#32
  let arg18 : BitVec 32 := Scf.iv c0_i32_18 c1_i32_19 k0_t2
  let c31_i32 : BitVec 32 := 31#32
  let v337 : BitVec 1 := Scalar.cmpi .slt arg18 c31_i32
  let v338 : BitVec 32 := Scalar.extui v337
  let c0_i32_45 : BitVec 32 := 0#32
  let v339 : BitVec 1 := Scalar.cmpi .ne v338 c0_i32_45
  v339

def k0_off107 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c8_i32_3 : BitVec 32 := 8#32
  let c0_i32_6 : BitVec 32 := 0#32
  let v19 : BitVec 1 := Scalar.cmpi .sgt c8_i32_3 c0_i32_6
  let v20 : BitVec 32 := Scalar.extui v19
  let c0_i32_7 : BitVec 32 := 0#32
  let v21 : BitVec 1 := Scalar.cmpi .slt c8_i32_3 c0_i32_7
  let v22 : BitVec 32 := Scalar.extui v21
  let v23 : BitVec 32 := Scalar.subi v20 v22
  let v24 : BitVec 1 := Scalar.cmpi .ne v18 v23
  let v25 : BitVec 32 := Scalar.remsi v1 c8_i32_3
  let c0_i32_8 : BitVec 32 := 0#32
  let v26 : BitVec 1 := Scalar.cmpi .ne v25 c0_i32_8
  let v27 : BitVec 1 := Scalar.andi v24 v26
  let v13 : BitVec 32 := Scalar.divsi v1 c8_i32_3
  let c1_i32_9 : BitVec 32 := 1#32
  let v28 : BitVec 32 := Scalar.subi v13 c1_i32_9
  let v29 : BitVec 32 := Scalar.select v27 v28 v13
  let c64_i32 : BitVec 32 := 64#32
  let v30 : BitVec 32 := Scalar.muli v29 c64_i32
  let c2_i32_23 : BitVec 32 := 2#32
  let c0_i32_18 : BitVec 32 := 0#32
  let c1_i32_19 : BitVec 32 := 1#32
  let arg18 : BitVec 32 := Scf.iv c0_i32_18 c1_i32_19 k0_t2
  let v294 : BitVec 32 := Scalar.muli c2_i32_23 arg18
  let v295 : BitVec 32 := Scalar.addi v30 v294
  let c2_i32_54 : BitVec 32 := 2#32
  let v353 : BitVec 32 := Scalar.addi v295 c2_i32_54
  let c0_i32_55 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![v353.toNat, 0, v12.toNat]
@[reducible] def k0_t5_loop : Scf.Loop 32 :=
  let c0_i32_55 : BitVec 32 := 0#32
  let c64_i32_56 : BitVec 32 := 64#32
  let v353 : BitVec 32 := Scalar.addi c0_i32_55 c64_i32_56
  let c1_i32_57 : BitVec 32 := 1#32
  ⟨c0_i32_55, v353, c1_i32_57⟩
def k0_off108 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v355 : Index := Scalar.indexCast arg20
  let c0_59 : Index := 0#32
  ![v355.toNat, 0]
def k0_off109 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v366 : Index := Scalar.indexCast arg20
  let c16_62 : Index := 16#32
  ![v366.toNat, 16]
def k0_off110 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v374 : Index := Scalar.indexCast arg20
  let c32_64 : Index := 32#32
  ![v374.toNat, 32]
def k0_off111 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v382 : Index := Scalar.indexCast arg20
  let c48_66 : Index := 48#32
  ![v382.toNat, 48]
def k0_off112 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v390 : Index := Scalar.indexCast arg20
  let c64_68 : Index := 64#32
  ![v390.toNat, 64]
def k0_off113 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v398 : Index := Scalar.indexCast arg20
  let c80_70 : Index := 80#32
  ![v398.toNat, 80]
def k0_off114 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v406 : Index := Scalar.indexCast arg20
  let c96_72 : Index := 96#32
  ![v406.toNat, 96]
def k0_off115 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v414 : Index := Scalar.indexCast arg20
  let c112_74 : Index := 112#32
  ![v414.toNat, 112]
def k0_off116 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v422 : Index := Scalar.indexCast arg20
  let c128_76 : Index := 128#32
  ![v422.toNat, 128]
def k0_off117 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v430 : Index := Scalar.indexCast arg20
  let c144_78 : Index := 144#32
  ![v430.toNat, 144]
def k0_off118 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v438 : Index := Scalar.indexCast arg20
  let c160_80 : Index := 160#32
  ![v438.toNat, 160]
def k0_off119 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v446 : Index := Scalar.indexCast arg20
  let c176_82 : Index := 176#32
  ![v446.toNat, 176]
def k0_off120 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v454 : Index := Scalar.indexCast arg20
  let c192_84 : Index := 192#32
  ![v454.toNat, 192]
def k0_off121 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v462 : Index := Scalar.indexCast arg20
  let c208_86 : Index := 208#32
  ![v462.toNat, 208]
def k0_off122 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v470 : Index := Scalar.indexCast arg20
  let c224_88 : Index := 224#32
  ![v470.toNat, 224]
def k0_off123 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v478 : Index := Scalar.indexCast arg20
  let c240_90 : Index := 240#32
  ![v478.toNat, 240]
def k0_off124 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v486 : Index := Scalar.indexCast arg20
  let c256_92 : Index := 256#32
  ![v486.toNat, 256]
def k0_off125 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v494 : Index := Scalar.indexCast arg20
  let c272_94 : Index := 272#32
  ![v494.toNat, 272]
def k0_off126 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v502 : Index := Scalar.indexCast arg20
  let c288_96 : Index := 288#32
  ![v502.toNat, 288]
def k0_off127 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v510 : Index := Scalar.indexCast arg20
  let c304_98 : Index := 304#32
  ![v510.toNat, 304]
def k0_off128 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v518 : Index := Scalar.indexCast arg20
  let c320_100 : Index := 320#32
  ![v518.toNat, 320]
def k0_off129 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v526 : Index := Scalar.indexCast arg20
  let c336_102 : Index := 336#32
  ![v526.toNat, 336]
def k0_off130 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v534 : Index := Scalar.indexCast arg20
  let c352_104 : Index := 352#32
  ![v534.toNat, 352]
def k0_off131 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v542 : Index := Scalar.indexCast arg20
  let c368_106 : Index := 368#32
  ![v542.toNat, 368]
def k0_off132 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v550 : Index := Scalar.indexCast arg20
  let c384_108 : Index := 384#32
  ![v550.toNat, 384]
def k0_off133 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v558 : Index := Scalar.indexCast arg20
  let c400_110 : Index := 400#32
  ![v558.toNat, 400]
def k0_off134 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v566 : Index := Scalar.indexCast arg20
  let c416_112 : Index := 416#32
  ![v566.toNat, 416]
def k0_off135 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v574 : Index := Scalar.indexCast arg20
  let c432_114 : Index := 432#32
  ![v574.toNat, 432]
def k0_off136 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v582 : Index := Scalar.indexCast arg20
  let c448_116 : Index := 448#32
  ![v582.toNat, 448]
def k0_off137 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v590 : Index := Scalar.indexCast arg20
  let c464_118 : Index := 464#32
  ![v590.toNat, 464]
def k0_off138 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v598 : Index := Scalar.indexCast arg20
  let c480_120 : Index := 480#32
  ![v598.toNat, 480]
def k0_off139 (k0_t5 : Fin k0_t5_loop.trips) : Fin 2 → Nat :=
  let c0_i32_55 : BitVec 32 := 0#32
  let c1_i32_57 : BitVec 32 := 1#32
  let arg20 : BitVec 32 := Scf.iv c0_i32_55 c1_i32_57 k0_t5
  let v606 : Index := Scalar.indexCast arg20
  let c496_122 : Index := 496#32
  ![v606.toNat, 496]
@[reducible] def k0_t6_loop : Scf.Loop 32 :=
  let c0_i32_55 : BitVec 32 := 0#32
  let c64_i32_56 : BitVec 32 := 64#32
  let v353 : BitVec 32 := Scalar.addi c0_i32_55 c64_i32_56
  let c1_i32_57 : BitVec 32 := 1#32
  ⟨c0_i32_55, v353, c1_i32_57⟩
def k0_off140 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v355 : Index := Scalar.indexCast arg20
  let c0_59 : Index := 0#32
  ![v355.toNat, 0]
def k0_off141 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v366 : Index := Scalar.indexCast arg20
  let c16_62 : Index := 16#32
  ![v366.toNat, 16]
def k0_off142 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v377 : Index := Scalar.indexCast arg20
  let c32_65 : Index := 32#32
  ![v377.toNat, 32]
def k0_off143 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v388 : Index := Scalar.indexCast arg20
  let c48_68 : Index := 48#32
  ![v388.toNat, 48]
def k0_off144 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v399 : Index := Scalar.indexCast arg20
  let c64_71 : Index := 64#32
  ![v399.toNat, 64]
def k0_off145 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v410 : Index := Scalar.indexCast arg20
  let c80_74 : Index := 80#32
  ![v410.toNat, 80]
def k0_off146 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v421 : Index := Scalar.indexCast arg20
  let c96_77 : Index := 96#32
  ![v421.toNat, 96]
def k0_off147 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v432 : Index := Scalar.indexCast arg20
  let c112_80 : Index := 112#32
  ![v432.toNat, 112]
def k0_off148 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v443 : Index := Scalar.indexCast arg20
  let c128_83 : Index := 128#32
  ![v443.toNat, 128]
def k0_off149 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v454 : Index := Scalar.indexCast arg20
  let c144_86 : Index := 144#32
  ![v454.toNat, 144]
def k0_off150 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v465 : Index := Scalar.indexCast arg20
  let c160_89 : Index := 160#32
  ![v465.toNat, 160]
def k0_off151 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v476 : Index := Scalar.indexCast arg20
  let c176_92 : Index := 176#32
  ![v476.toNat, 176]
def k0_off152 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v487 : Index := Scalar.indexCast arg20
  let c192_95 : Index := 192#32
  ![v487.toNat, 192]
def k0_off153 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v498 : Index := Scalar.indexCast arg20
  let c208_98 : Index := 208#32
  ![v498.toNat, 208]
def k0_off154 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v509 : Index := Scalar.indexCast arg20
  let c224_101 : Index := 224#32
  ![v509.toNat, 224]
def k0_off155 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v520 : Index := Scalar.indexCast arg20
  let c240_104 : Index := 240#32
  ![v520.toNat, 240]
def k0_off156 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v531 : Index := Scalar.indexCast arg20
  let c256_107 : Index := 256#32
  ![v531.toNat, 256]
def k0_off157 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v542 : Index := Scalar.indexCast arg20
  let c272_110 : Index := 272#32
  ![v542.toNat, 272]
def k0_off158 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v553 : Index := Scalar.indexCast arg20
  let c288_113 : Index := 288#32
  ![v553.toNat, 288]
def k0_off159 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v564 : Index := Scalar.indexCast arg20
  let c304_116 : Index := 304#32
  ![v564.toNat, 304]
def k0_off160 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v575 : Index := Scalar.indexCast arg20
  let c320_119 : Index := 320#32
  ![v575.toNat, 320]
def k0_off161 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v586 : Index := Scalar.indexCast arg20
  let c336_122 : Index := 336#32
  ![v586.toNat, 336]
def k0_off162 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v597 : Index := Scalar.indexCast arg20
  let c352_125 : Index := 352#32
  ![v597.toNat, 352]
def k0_off163 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v608 : Index := Scalar.indexCast arg20
  let c368_128 : Index := 368#32
  ![v608.toNat, 368]
def k0_off164 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v619 : Index := Scalar.indexCast arg20
  let c384_131 : Index := 384#32
  ![v619.toNat, 384]
def k0_off165 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v630 : Index := Scalar.indexCast arg20
  let c400_134 : Index := 400#32
  ![v630.toNat, 400]
def k0_off166 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v641 : Index := Scalar.indexCast arg20
  let c416_137 : Index := 416#32
  ![v641.toNat, 416]
def k0_off167 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v652 : Index := Scalar.indexCast arg20
  let c432_140 : Index := 432#32
  ![v652.toNat, 432]
def k0_off168 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v663 : Index := Scalar.indexCast arg20
  let c448_143 : Index := 448#32
  ![v663.toNat, 448]
def k0_off169 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v674 : Index := Scalar.indexCast arg20
  let c464_146 : Index := 464#32
  ![v674.toNat, 464]
def k0_off170 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v685 : Index := Scalar.indexCast arg20
  let c480_149 : Index := 480#32
  ![v685.toNat, 480]
def k0_off171 (k0_t6 : Fin k0_t6_loop.trips) : Fin 2 → Nat :=
  let c0_i32_55 : BitVec 32 := 0#32
  let c1_i32_57 : BitVec 32 := 1#32
  let arg20 : BitVec 32 := Scf.iv c0_i32_55 c1_i32_57 k0_t6
  let v696 : Index := Scalar.indexCast arg20
  let c496_152 : Index := 496#32
  ![v696.toNat, 496]
def k0_off172 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c8_i32_3 : BitVec 32 := 8#32
  let c0_i32_6 : BitVec 32 := 0#32
  let v19 : BitVec 1 := Scalar.cmpi .sgt c8_i32_3 c0_i32_6
  let v20 : BitVec 32 := Scalar.extui v19
  let c0_i32_7 : BitVec 32 := 0#32
  let v21 : BitVec 1 := Scalar.cmpi .slt c8_i32_3 c0_i32_7
  let v22 : BitVec 32 := Scalar.extui v21
  let v23 : BitVec 32 := Scalar.subi v20 v22
  let v24 : BitVec 1 := Scalar.cmpi .ne v18 v23
  let v25 : BitVec 32 := Scalar.remsi v1 c8_i32_3
  let c0_i32_8 : BitVec 32 := 0#32
  let v26 : BitVec 1 := Scalar.cmpi .ne v25 c0_i32_8
  let v27 : BitVec 1 := Scalar.andi v24 v26
  let v13 : BitVec 32 := Scalar.divsi v1 c8_i32_3
  let c1_i32_9 : BitVec 32 := 1#32
  let v28 : BitVec 32 := Scalar.subi v13 c1_i32_9
  let v29 : BitVec 32 := Scalar.select v27 v28 v13
  let c64_i32 : BitVec 32 := 64#32
  let v30 : BitVec 32 := Scalar.muli v29 c64_i32
  let c0_i32_21 : BitVec 32 := 0#32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c512_i32 : BitVec 32 := 512#32
  let v12 : BitVec 32 := Scalar.muli v11 c512_i32
  ![v30.toNat, 0, v12.toNat]
abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x4096 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x4096x64 : Shape := ⟨3, ![256, 4096, 64]⟩
abbrev S3x64 : Shape := ⟨2, ![3, 64]⟩
abbrev S4096 : Shape := ⟨1, ![4096]⟩
abbrev S1x4096 : Shape := ⟨2, ![1, 4096]⟩
abbrev S256x4096 : Shape := ⟨2, ![256, 4096]⟩
abbrev S_ : Shape := ⟨0, ![]⟩
abbrev S256x4096x1 : Shape := ⟨3, ![256, 4096, 1]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S256x4096x64, .f32⟩
  | .hbm, ⟨1, _⟩ => ⟨S3x64, .f32⟩
  | .hbm, ⟨2, _⟩ => ⟨S4096, .i32⟩
  | .hbm, ⟨3, _⟩ => ⟨S1x4096, .i32⟩
  | .hbm, ⟨4, _⟩ => ⟨S256x4096, .i32⟩
  | .hbm, ⟨5, _⟩ => ⟨S_, .i32⟩
  | .hbm, ⟨6, _⟩ => ⟨S256x4096, .i32⟩
  | .hbm, ⟨7, _⟩ => ⟨S256x4096, .i1⟩
  | .hbm, ⟨8, _⟩ => ⟨S_, .i32⟩
  | .hbm, ⟨9, _⟩ => ⟨S256x4096, .i32⟩
  | .hbm, ⟨10, _⟩ => ⟨S256x4096, .i32⟩
  | .hbm, ⟨11, _⟩ => ⟨S256x4096, .i32⟩
  | .hbm, ⟨12, _⟩ => ⟨S256x4096x1, .i32⟩
  | .hbm, ⟨13, _⟩ => ⟨S1, .i32⟩
  | .hbm, ⟨14, _⟩ => ⟨S_, .i32⟩
  | .hbm, ⟨15, _⟩ => ⟨S256x4096x1, .i32⟩
  | .hbm, ⟨16, _⟩ => ⟨S256x4096x1, .i1⟩
  | .hbm, ⟨17, _⟩ => ⟨S1x1x1, .i32⟩
  | .hbm, ⟨18, _⟩ => ⟨S256x4096x1, .i32⟩
  | .hbm, ⟨19, _⟩ => ⟨S256x4096x1, .i1⟩
  | .hbm, ⟨20, _⟩ => ⟨S256x4096x1, .i1⟩
  | .hbm, ⟨21, _⟩ => ⟨S_, .i1⟩
  | .hbm, ⟨22, _⟩ => ⟨S256x4096, .i1⟩
  | .hbm, ⟨23, _⟩ => ⟨S256x4096x64, .f32⟩
  | .hbm, ⟨24, _⟩ => ⟨S256x4096x64, .i1⟩
  | .hbm, ⟨25, _⟩ => ⟨S_, .f32⟩
  | .hbm, ⟨26, _⟩ => ⟨S256x4096x64, .f32⟩
  | .hbm, ⟨27, _⟩ => ⟨S256x4096x64, .f32⟩
  | .hbm, ⟨28, _⟩ => ⟨S256x4096x64, .f32⟩
  | .hbm, ⟨29, _⟩ => ⟨S_, .i1⟩
  | .hbm, ⟨30, _⟩ => ⟨S256x4096, .i1⟩
  | _, _ => ⟨S256x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Setup.lean ====
/-
  What every part of the proof stands on: the program as the SparseCore launch theorem sees it, the resource algebra
  (the handshakes' rounds, the TensorCore pipeline's rounds, the transfers' counters), the arrays the kernels read and
  write, and the values they are meant to hold.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Slot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)
/-- The resource algebra of the whole proof, over the float values `F`. -/
abbrev MM (F : FTy → Type) : Type := MT nD τ sig (HIx 1) (Elt F) ℕ UU ℕ

abbrev EH : Emb UH (MM F) := embL
/-- The pipeline's rounds: the left half of the right factor. -/
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MM F)).LandsIn (upEmb : UEmb _ (MM F)) := by unfold EP; infer_instance

/-! ## The arrays -/

abbrev xLoc (d : Dev nD) : Loc nD τ sig := (SparseCore.T d).loc main_v0
abbrev eLoc (d : Dev nD) : Loc nD τ sig := (SparseCore.T d).loc main_v5
abbrev iLoc (d : Dev nD) : Loc nD τ sig := (SparseCore.T d).loc main_arg2
abbrev cLoc (d : Dev nD) : Loc nD τ sig := (SparseCore.T d).loc main_v6_0
abbrev tLoc (d : Dev nD) : Loc nD τ sig := (SparseCore.T d).loc main_v6_1

/-- The arrays and the tile's buffers as a tile names them. -/
abbrev xM : Memref sig .scVector .hbm S256x64x4096 .f32 := Memref.whole main_v0_scv
abbrev eM : Memref sig .scVector .hbm S64x48 .f32 := Memref.whole main_v5_scv
abbrev iM : Memref sig .scVector .hbm S4096 .i32 := Memref.whole main_arg2_scv
abbrev cM : Memref sig .scVector .hbm S256x64x4096 .f32 := Memref.whole main_v6_0_scv
abbrev tM : Memref sig .scVector .hbm S256x64x4096 .f32 := Memref.whole main_v6_1_scv
abbrev idsM : Memref sig .scVector .vmem S512 .i32 := Memref.whole cc0_scratch0
abbrev embM : Memref sig .scVector .vmem S64x48 .f32 := Memref.whole cc0_scratch1
abbrev fbM : Memref sig .scVector .vmem S64x512 .f32 := Memref.whole cc0_scratch2
abbrev b0M : Memref sig .scVector .vmem S64x512 .f32 := Memref.whole cc0_scratch3
abbrev b1M : Memref sig .scVector .vmem S64x512 .f32 := Memref.whole cc0_scratch4

abbrev cV (L : grid0.Coords) : Fin τ.nSC := (L 0).castLE hcore0
abbrev jV (L : grid0.Coords) : Fin τ.nSub := (L 1).castLE hsub0
/-- The thread of the tile at coordinates `L` of device `d`. -/
abbrev thr (d : Dev nD) (L : grid0.Coords) : Thread nD τ := V d (cV L) (jV L)

/-! ## The values -/

variable [FloatOps F]

/-- The table's entry for type number `i`, of the three given. -/
def pick (i : BitVec 32) (e0 e1 e2 : Elt F .f32) : Elt F .f32 := if i = 0#32 then e0 else if i = 1#32 then e1 else e2

/-- The column of the spread table that holds the entry for type number `t` at lane `σ % 16`. -/
def ecol (t : Fin 3) (σ : Fin 512) : Fin 48 := ⟨16 * t.val + σ.val % 16, by omega⟩

/-- The pattern's entry at feature `y 0` and slot `y 1` of a tile's block: the table's value for the slot's type, from
    the block's types `fi` and the spread table `fe`. -/
def fbv (fi : S512.Idx → Elt F .i32) (fe : S64x48.Idx → Elt F .f32) (y : S64x512.Idx) : Elt F .f32 :=
  pick (F := F) (fi (ValueIdx.ix1 (y 1))) (fe (ValueIdx.ix2 (y 0) (ecol 0 (y 1)))) (fe (ValueIdx.ix2 (y 0) (ecol 1 (y 1))))
    (fe (ValueIdx.ix2 (y 0) (ecol 2 (y 1))))

end Cert.Proof.Slot

end
-- ==== Proof.Rows.lean ====
/-
  What one pass over a row of a 64 x 512 buffer leaves. A loop of the kernel takes one row per trip, in 32 stores of
  sixteen lanes; the executor leaves the row's buffer as a list of 32 written pieces. `Pieces k G l 32` says that the
  list is those 32 pieces of row `k`, each holding `G`; `writes_pieces` says what the buffer then holds.
-/
module

public import proofs.«01_k».proof.Proof.Setup
public import Idealize.ShloMosaic.Lib.ValueLayout
public import Idealize.ShloMosaic.Lib.Writes

@[expose] public section

noncomputable section

namespace Cert.Proof.Slot

open Cert.KernelIdeal Cert.KernelIdeal.Gen
open Idealize.ShloMosaic
open Idealize.ShloMosaic.ValueIdx (ix1 ix2 eq_ix1 eq_ix2)

variable {F : FTy → Type}

/-- Piece `p` is lanes `16 g … 16 g + 15` of row `k`, and holds `G` there. -/
def PieceAt (k g : ℕ) (G : S64x512.Idx → Elt F .f32) (p : View.Piece (Elt F) S64x512 .f32) : Prop :=
  (∀ x, p.2 x = G (p.1.emb x)) ∧ ∀ y : S64x512.Idx, y ∈ p.1.set ↔ (y 0).val = k ∧ (y 1).val / 16 = g

/-- The list is the `n` first pieces of row `k`, the last first, each holding `G`. -/
def Pieces (k : ℕ) (G : S64x512.Idx → Elt F .f32) : List (View.Piece (Elt F) S64x512 .f32) → ℕ → Prop
  | [], n => n = 0
  | _ :: _, 0 => False
  | p :: l, n + 1 => PieceAt k n G p ∧ Pieces k G l n

/-- Every piece of a row holds the row's contents and lies in the row. -/
theorem Pieces.holds {k : ℕ} {G : S64x512.Idx → Elt F .f32} : ∀ {l : List (View.Piece (Elt F) S64x512 .f32)} {n : ℕ}, Pieces k G l n →
    ∀ p ∈ l, (∀ x, p.2 x = G (p.1.emb x)) ∧ ∀ y : S64x512.Idx, y ∈ p.1.set → (y 0).val = k
  | [], _, _, _, hp => absurd hp List.not_mem_nil
  | _ :: _, 0, h, _, _ => h.elim
  | q :: l, n + 1, h, p, hp => by
    rcases List.mem_cons.mp hp with rfl | hp
    · exact ⟨h.1.1, fun y hy => ((h.1.2 y).mp hy).1⟩
    · exact Pieces.holds h.2 p hp

/-- The pieces reach every group of the row so far. -/
theorem Pieces.cover {k : ℕ} {G : S64x512.Idx → Elt F .f32} : ∀ {l : List (View.Piece (Elt F) S64x512 .f32)} {n : ℕ}, Pieces k G l n →
    ∀ y : S64x512.Idx, (y 0).val = k → (y 1).val / 16 < n → ∃ p ∈ l, y ∈ p.1.set
  | [], n, h, _, _, hy => absurd hy (by have : n = 0 := h; omega)
  | _ :: _, 0, h, _, _, _ => h.elim
  | q :: l, n + 1, h, y, hk, hy => by
    rcases Nat.lt_or_ge ((y 1).val / 16) n with hlt | hge
    · obtain ⟨p, hp, hy⟩ := Pieces.cover h.2 y hk hlt
      exact ⟨p, List.mem_cons_of_mem _ hp, hy⟩
    · exact ⟨q, List.mem_cons_self, (h.1.2 y).mpr ⟨hk, by omega⟩⟩

/-- The contents `f` with row `k` put to `G`. -/
def putRow (k : ℕ) (G f : S64x512.Idx → Elt F .f32) : S64x512.Idx → Elt F .f32 := fun y => if (y 0).val = k then G y else f y

/-- The contents `f` with the rows below `n` put to `G`. -/
def putRows (n : ℕ) (G f : S64x512.Idx → Elt F .f32) : S64x512.Idx → Elt F .f32 := fun y => if (y 0).val < n then G y else f y

/-- No row put in changes nothing. -/
theorem putRows_zero (G f : S64x512.Idx → Elt F .f32) : putRows 0 G f = f := funext fun y => by simp [putRows]
/-- All rows put in are the whole contents. -/
theorem putRows_full (G f : S64x512.Idx → Elt F .f32) : putRows 64 G f = G := funext fun y => by
  have h : (y 0).val < 64 := (y 0).isLt
  simp [putRows, h]
/-- One more row put in. -/
theorem putRow_putRows (n : ℕ) (G f : S64x512.Idx → Elt F .f32) : putRow n G (putRows n G f) = putRows (n + 1) G f := funext fun y => by
  unfold putRow putRows
  by_cases h : (y 0).val = n
  · rw [if_pos h, if_pos (by omega)]
  · rw [if_neg h]
    by_cases h' : (y 0).val < n
    · rw [if_pos h', if_pos (by omega)]
    · rw [if_neg h', if_neg (by omega)]

/-- The 32 pieces of row `k` written into a buffer leave row `k` at `G` and the rest as it was. -/
theorem read_writes_pieces {κ : Kind} {sp : Space} (v : View sig κ sp S64x512 .f32) (f : v.ty.Contents (Elt F)) {k : ℕ} {G : S64x512.Idx → Elt F .f32}
    {l : List (View.Piece (Elt F) S64x512 .f32)} (h : Pieces k G l 32) (y : S64x512.Idx) :
    v.read (Elt F) (v.writes (Elt F) f l) y = putRow k G (v.read (Elt F) f) y := by
  unfold putRow
  by_cases hk : (y 0).val = k
  · rw [if_pos hk]
    refine View.read_writes_apply_of_pieces v f G l (fun p hp => (h.holds p hp).1) y (h.cover y hk ?_)
    have : (y 1).val < 512 := (y 1).isLt
    omega
  · rw [if_neg hk]
    exact View.read_writes_apply_of_forall_not_mem v f y l fun p hp hy => hk ((h.holds p hp).2 y hy)

/-- A whole 64 x 512 buffer of a tile after the 32 pieces of row `k` are written into it. -/
theorem writes_pieces_b0 (f : S64x512.Idx → Elt F .f32) {k : ℕ} {G : S64x512.Idx → Elt F .f32}
    {l : List (View.Piece (Elt F) S64x512 .f32)} (h : Pieces k G l 32) : b0M.view.writes (Elt F) f l = putRow k G f := by
  have e := funext (read_writes_pieces b0M.view f h)
  simp only [Memref.view_whole, View.read_whole] at e ⊢
  exact e
/-- A row's thirty-two pieces stored in a block's buffer put the row in. -/
theorem writes_pieces_b1 (f : S64x512.Idx → Elt F .f32) {k : ℕ} {G : S64x512.Idx → Elt F .f32}
    {l : List (View.Piece (Elt F) S64x512 .f32)} (h : Pieces k G l 32) : b1M.view.writes (Elt F) f l = putRow k G f := by
  have e := funext (read_writes_pieces b1M.view f h)
  simp only [Memref.view_whole, View.read_whole] at e ⊢
  exact e
/-- A row's thirty-two pieces stored in the pattern's buffer put the row in. -/
theorem writes_pieces_fb (f : S64x512.Idx → Elt F .f32) {k : ℕ} {G : S64x512.Idx → Elt F .f32}
    {l : List (View.Piece (Elt F) S64x512 .f32)} (h : Pieces k G l 32) : fbM.view.writes (Elt F) f l = putRow k G f := by
  have e := funext (read_writes_pieces fbM.view f h)
  simp only [Memref.view_whole, View.read_whole] at e ⊢
  exact e

/-- The place lane `i` of group `g` has in row `k`. -/
theorem emb_group {k g : ℕ} (hk : k < 64) (hg : g < 32) {off : Fin 2 → ℕ} (inb : ∀ a, off a + S1x16.size a ≤ S64x512.size a) (hoff : off = ![k, 16 * g])
    (i : Fin 16) : (Rect.unit (s := S64x512) off S1x16.size inb).emb (ix2 (0 : Fin 1) i) = ix2 (⟨k, hk⟩ : Fin 64) (⟨16 * g + i.val, by omega⟩ : Fin 512) := by
  subst hoff
  funext a; apply Fin.ext
  match a with
  | 0 => show k + 1 * 0 = k; omega
  | 1 => show 16 * g + 1 * i.val = 16 * g + i.val; omega

/-- A unit rectangle of one row and sixteen lanes at lane `16 g` of row `k`, holding `G` lane by lane, is piece `g`. -/
theorem pieceAt_unit {k g : ℕ} (hk : k < 64) (hg : g < 32) {G : S64x512.Idx → Elt F .f32} {off : Fin 2 → ℕ}
    (inb : ∀ a, off a + S1x16.size a ≤ S64x512.size a) (hoff : off = ![k, 16 * g]) (w : S1x16.Idx → Elt F .f32)
    (hw : ∀ i : Fin 16, w (ix2 (0 : Fin 1) i) = G (ix2 (⟨k, hk⟩ : Fin 64) (⟨16 * g + i.val, by omega⟩ : Fin 512))) :
    PieceAt k g G ⟨Rect.unit (s := S64x512) off S1x16.size inb, w⟩ := by
  constructor
  · intro x
    obtain ⟨u, i, rfl⟩ : ∃ (u : Fin 1) (i : Fin 16), x = ix2 u i := ⟨x 0, x 1, eq_ix2 x⟩
    obtain rfl : u = 0 := Subsingleton.elim _ _
    show w _ = G _
    rw [emb_group hk hg inb hoff]; exact hw i
  · intro y
    rw [Rect.mem_set_unit]
    subst hoff
    constructor
    · intro h
      have h0 : k ≤ (y 0).val ∧ (y 0).val < k + 1 := h 0
      have h1 : 16 * g ≤ (y 1).val ∧ (y 1).val < 16 * g + 16 := h 1
      omega
    · rintro ⟨h0, h1⟩ a
      match a with
      | 0 => show k ≤ (y 0).val ∧ (y 0).val < k + 1; omega
      | 1 => show 16 * g ≤ (y 1).val ∧ (y 1).val < 16 * g + 16; omega

/-- A load of sixteen lanes of a row of a 64 x 512 buffer, at a lane. -/
theorem read_group {κ : Kind} {sp : Space} (v : View sig κ sp S64x512 .f32) (f : v.ty.Contents (Elt F)) {k g : ℕ} (hk : k < 64) (hg : g < 32)
    {off : Fin 2 → ℕ} (inb : ∀ a, off a + S1x16.size a ≤ S64x512.size a) (hoff : off = ![k, 16 * g]) (i : Fin 16) :
    v.readAt (Elt F) (Rect.unit (s := S64x512) off S1x16.size inb).toLoadRect f (ix2 (0 : Fin 1) i)
      = v.read (Elt F) f (ix2 (⟨k, hk⟩ : Fin 64) (⟨16 * g + i.val, by omega⟩ : Fin 512)) := by
  rw [← emb_group hk hg inb hoff i]; rfl

variable [FloatOps F]

/-- The store of the sum of two loaded groups, one from each buffer, at the first's place: the group of the sum. -/
theorem pieceAt_add {κ κ' : Kind} {sp sp' : Space} (v : View sig κ sp S64x512 .f32) (v' : View sig κ' sp' S64x512 .f32) (fx : v.ty.Contents (Elt F))
    (ff : v'.ty.Contents (Elt F)) {k g : ℕ} (hk : k < 64) (hg : g < 32) {off : Fin 2 → ℕ} (inb : ∀ a, off a + S1x16.size a ≤ S64x512.size a)
    (hoff : off = ![k, 16 * g]) (h₁ : S1x16.ShapeCasts S16) (h₂ : S16.ShapeCasts S1x16) :
    PieceAt k g (fun y => FloatOps.addf (v.read (Elt F) fx y) (v'.read (Elt F) ff y)) ⟨Rect.unit (s := S64x512) off S1x16.size inb,
      shapeCast S1x16 (addf (F := F) (φ := .f32) (shapeCast S16 (v.readAt (Elt F) (Rect.unit (s := S64x512) off S1x16.size inb).toLoadRect fx) h₁)
        (shapeCast S16 (v'.readAt (Elt F) (Rect.unit (s := S64x512) off S1x16.size inb).toLoadRect ff) h₁)) h₂⟩ := by
  refine pieceAt_unit hk hg inb hoff _ fun i => ?_
  rw [ValueIdx.shapeCast_a_1a_apply]
  show FloatOps.addf (shapeCast S16 _ h₁ (ix1 i)) (shapeCast S16 _ h₁ (ix1 i)) = _
  rw [ValueIdx.shapeCast_1a_a_apply, ValueIdx.shapeCast_1a_a_apply, read_group v fx hk hg inb hoff, read_group v' ff hk hg inb hoff]

/-- Lane `σ`'s place in the first group. -/
def lane0 (σ : Fin 512) : Fin 512 := ⟨σ.val % 16, by omega⟩

/-- The store of the sum of a loaded group and the second buffer's FIRST group of the row, at the former's place. -/
theorem pieceAt_add₀ {κ κ' : Kind} {sp sp' : Space} (v : View sig κ sp S64x512 .f32) (v' : View sig κ' sp' S64x512 .f32) (fx : v.ty.Contents (Elt F))
    (ff : v'.ty.Contents (Elt F)) {k g : ℕ} (hk : k < 64) (hg : g < 32) {off off₀ : Fin 2 → ℕ} (inb : ∀ a, off a + S1x16.size a ≤ S64x512.size a)
    (inb₀ : ∀ a, off₀ a + S1x16.size a ≤ S64x512.size a) (hoff : off = ![k, 16 * g]) (hoff₀ : off₀ = ![k, 16 * 0])
    (h₁ : S1x16.ShapeCasts S16) (h₂ : S16.ShapeCasts S1x16) :
    PieceAt k g (fun y => FloatOps.addf (v.read (Elt F) fx y) (v'.read (Elt F) ff (ix2 (n0 := 64) (n1 := 512) (y 0) (lane0 (y 1))))) ⟨Rect.unit (s := S64x512) off S1x16.size inb,
      shapeCast S1x16 (addf (F := F) (φ := .f32) (shapeCast S16 (v.readAt (Elt F) (Rect.unit (s := S64x512) off S1x16.size inb).toLoadRect fx) h₁)
        (shapeCast S16 (v'.readAt (Elt F) (Rect.unit (s := S64x512) off₀ S1x16.size inb₀).toLoadRect ff) h₁)) h₂⟩ := by
  refine pieceAt_unit hk hg inb hoff _ fun i => ?_
  rw [ValueIdx.shapeCast_a_1a_apply]
  show FloatOps.addf (shapeCast S16 _ h₁ (ix1 i)) (shapeCast S16 _ h₁ (ix1 i)) = _
  rw [ValueIdx.shapeCast_1a_a_apply, ValueIdx.shapeCast_1a_a_apply, read_group v fx hk hg inb hoff, read_group v' ff hk (by omega) inb₀ hoff₀]
  have e : (⟨16 * 0 + i.val, by omega⟩ : Fin 512) = lane0 ⟨16 * g + i.val, by omega⟩ := Fin.ext (by show 16 * 0 + i.val = (16 * g + i.val) % 16; omega)
  rw [e]

/-- Sixteen types of a tile's block, loaded at a lane. -/
theorem read_ids {κ : Kind} {sp : Space} (v : View sig κ sp S512 .i32) (f : v.ty.Contents (Elt F)) {g : ℕ} (hg : g < 32) {off : Fin 1 → ℕ}
    (inb : ∀ a, off a + S16.size a ≤ S512.size a) (hoff : off = ![16 * g]) (i : Fin 16) :
    v.readAt (Elt F) (Rect.unit (s := S512) off S16.size inb).toLoadRect f (ix1 i)
      = v.read (Elt F) f (ix1 (⟨16 * g + i.val, by omega⟩ : Fin 512)) := by
  have e : (Rect.unit (s := S512) off S16.size inb).emb (ix1 i) = ix1 (⟨16 * g + i.val, by omega⟩ : Fin 512) := by
    subst hoff
    funext a; apply Fin.ext
    match a with
    | 0 => show 16 * g + 1 * i.val = 16 * g + i.val; omega
  rw [← e]; rfl

/-- Sixteen entries of a row of the spread table, those for type `t`, loaded at a lane. -/
theorem read_emb {κ : Kind} {sp : Space} (v : View sig κ sp S64x48 .f32) (f : v.ty.Contents (Elt F)) {k : ℕ} (hk : k < 64) (t : Fin 3)
    {off : Fin 2 → ℕ} (inb : ∀ a, off a + S1x16.size a ≤ S64x48.size a) (hoff : off = ![k, 16 * t.val]) (i : Fin 16) (σ : Fin 512) (hσ : σ.val % 16 = i.val) :
    v.readAt (Elt F) (Rect.unit (s := S64x48) off S1x16.size inb).toLoadRect f (ix2 (0 : Fin 1) i)
      = v.read (Elt F) f (ix2 (⟨k, hk⟩ : Fin 64) (ecol t σ)) := by
  have e : (Rect.unit (s := S64x48) off S1x16.size inb).emb (ix2 (0 : Fin 1) i) = ix2 (⟨k, hk⟩ : Fin 64) (ecol t σ) := by
    subst hoff
    funext a; apply Fin.ext
    match a with
    | 0 => show k + 1 * 0 = k; omega
    | 1 => show 16 * t.val + 1 * i.val = 16 * t.val + σ.val % 16; omega
  rw [← e]; rfl

/-- The selects on a lane's type number choose its entry. -/
theorem pick_select (v : BitVec 32) (e0 e1 e2 : Elt F .f32) :
    (Scalar.select (Scalar.cmpi .eq v 0#32) e0 (Scalar.select (Scalar.cmpi .eq v 1#32) e1 e2) : Elt F .f32) = pick (F := F) v e0 e1 e2 := by
  unfold pick Scalar.select Scalar.cmpi
  by_cases h0 : v = 0#32
  · subst h0; rfl
  · by_cases h1 : v = 1#32
    · subst h1; rfl
    · rw [if_neg h0, if_neg h1]
      have e0' : (v == 0#32) = false := beq_eq_false_iff_ne.mpr h0
      have e1' : (v == 1#32) = false := beq_eq_false_iff_ne.mpr h1
      show (if BitVec.ofBool (v == 0#32) = 1#1 then e0 else if BitVec.ofBool (v == 1#32) = 1#1 then e1 else e2) = e2
      rw [e0', e1']; rfl

/-- The store of a group of the pattern, at its place. -/
theorem pieceAt_pat {κ κ' : Kind} {sp sp' : Space} (v : View sig κ sp S512 .i32) (v' : View sig κ' sp' S64x48 .f32) (fi : v.ty.Contents (Elt F))
    (fe : v'.ty.Contents (Elt F)) {k g : ℕ} (hk : k < 64) (hg : g < 32) {off : Fin 2 → ℕ} {offi : Fin 1 → ℕ} {o0 o1 o2 : Fin 2 → ℕ}
    (inb : ∀ a, off a + S1x16.size a ≤ S64x512.size a) (inbi : ∀ a, offi a + S16.size a ≤ S512.size a)
    (i0 : ∀ a, o0 a + S1x16.size a ≤ S64x48.size a) (i1 : ∀ a, o1 a + S1x16.size a ≤ S64x48.size a) (i2 : ∀ a, o2 a + S1x16.size a ≤ S64x48.size a)
    (hoff : off = ![k, 16 * g]) (hoffi : offi = ![16 * g]) (h0 : o0 = ![k, 16 * (0 : Fin 3).val]) (h1 : o1 = ![k, 16 * (1 : Fin 3).val]) (h2 : o2 = ![k, 16 * (2 : Fin 3).val])
    (c : S16.ShapeCasts S16) (c₁ : S1x16.ShapeCasts S16) (c₂ : S16.ShapeCasts S1x16) :
    PieceAt k g (fbv (F := F) (v.read (Elt F) fi) (v'.read (Elt F) fe)) ⟨Rect.unit (s := S64x512) off S1x16.size inb,
      shapeCast S1x16 (select (cmpi .eq (shapeCast S16 (v.readAt (Elt F) (Rect.unit (s := S512) offi S16.size inbi).toLoadRect fi) c) (broadcast S16 0#32))
        (shapeCast S16 (v'.readAt (Elt F) (Rect.unit (s := S64x48) o0 S1x16.size i0).toLoadRect fe) c₁)
        (select (cmpi .eq (shapeCast S16 (v.readAt (Elt F) (Rect.unit (s := S512) offi S16.size inbi).toLoadRect fi) c) (broadcast S16 1#32))
          (shapeCast S16 (v'.readAt (Elt F) (Rect.unit (s := S64x48) o1 S1x16.size i1).toLoadRect fe) c₁)
          (shapeCast S16 (v'.readAt (Elt F) (Rect.unit (s := S64x48) o2 S1x16.size i2).toLoadRect fe) c₁))) c₂⟩ := by
  refine pieceAt_unit hk hg inb hoff _ fun i => ?_
  have hσ : (⟨16 * g + i.val, by omega⟩ : Fin 512).val % 16 = i.val := by show (16 * g + i.val) % 16 = i.val; omega
  rw [ValueIdx.shapeCast_a_1a_apply]
  have hid := read_ids v fi hg inbi hoffi i
  show (Scalar.select (Scalar.cmpi .eq (shapeCast S16 _ c (ix1 i)) 0#32) (shapeCast S16 _ c₁ (ix1 i))
    (Scalar.select (Scalar.cmpi .eq (shapeCast S16 _ c (ix1 i)) 1#32) (shapeCast S16 _ c₁ (ix1 i)) (shapeCast S16 _ c₁ (ix1 i))) : Elt F .f32) = _
  rw [pick_select, ValueIdx.shapeCast_1a_a_apply, ValueIdx.shapeCast_1a_a_apply, ValueIdx.shapeCast_1a_a_apply,
    read_emb v' fe hk 0 i0 h0 i _ hσ, read_emb v' fe hk 1 i1 h1 i _ hσ, read_emb v' fe hk 2 i2 h2 i _ hσ]
  show pick (F := F) (shapeCast S16 _ c (ix1 i)) _ _ _ = pick _ _ _ _
  rw [show shapeCast S16 (v.readAt (Elt F) (Rect.unit (s := S512) offi S16.size inbi).toLoadRect fi) c (ix1 i) = _ from
    (congrFun (shapeCast_self _ c) (ix1 i)).trans hid]

/-- Only the row put in counts. -/
theorem putRow_congr {k : ℕ} {G G' f : S64x512.Idx → Elt F .f32} (h : ∀ y : S64x512.Idx, (y 0).val = k → G y = G' y) : putRow k G f = putRow k G' f := by
  funext y; unfold putRow; split
  · rename_i e; exact h y e
  · rfl

/-- Below its bound `putRows` has left nothing of `f`; from it on, everything. -/
theorem putRows_of_le {n : ℕ} {G f : S64x512.Idx → Elt F .f32} {y : S64x512.Idx} (h : n ≤ (y 0).val) : putRows n G f y = f y :=
  if_neg (by omega)

end Cert.Proof.Slot

end
-- ==== Proof.Loops.lean ====
/-
  The four adding loops of the kernel and the loop that builds the pattern: one trip of each, and the loop whole.
-/
module

public import proofs.«01_k».proof.Proof.Rows

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

/-- The sum of a row buffer and the pattern, lane by lane. -/
abbrev addG (fx ff : S64x512.Idx → Elt F .f32) : S64x512.Idx → Elt F .f32 := fun y => FloatOps.addf (fx y) (ff y)
/-- The sum of a row buffer and the first sixteen lanes of the pattern's row, repeated. -/
abbrev addG₀ (fx ff : S64x512.Idx → Elt F .f32) : S64x512.Idx → Elt F .f32 :=
  fun y => FloatOps.addf (fx y) (ff (ix2 (n0 := 64) (n1 := 512) (y 0) (lane0 (y 1))))

/-! ## The loops' regions, at this kernel's buffers -/

abbrev body1 (v155 : IVec S16 32) (v156 : IVec S16 32) (v158 : BitVec 32) (v177 : BitVec 1) (v180 : BitVec 1) (v181 : IVec S1 32) :=
  k0_t1_body (F := F) L xM (Memref.isWhole_whole _) eM (Memref.isWhole_whole _) iM (Memref.isWhole_whole _) cM (Memref.isWhole_whole _) tM (Memref.isWhole_whole _)
    idsM (Memref.isWhole_whole _) embM (Memref.isWhole_whole _) fbM (Memref.isWhole_whole _) b0M (Memref.isWhole_whole _) b1M (Memref.isWhole_whole _)
    cc0_scratch5 cc0_scratch6 cc0_scratch7 cc0_scratch8 cc0_scratch9 cc0_scratch10 cc0_scoped0 cc0_scoped1 v155 v156 v158 v177 v180 v181
abbrev body3 (v30 : BitVec 32) (v283 : BitVec 1) (a b : BitVec 32) (k2 : Fin k0_t2_loop.trips) :=
  k0_t3_body (F := F) L xM (Memref.isWhole_whole _) eM (Memref.isWhole_whole _) iM (Memref.isWhole_whole _) cM (Memref.isWhole_whole _) tM (Memref.isWhole_whole _)
    idsM (Memref.isWhole_whole _) embM (Memref.isWhole_whole _) fbM (Memref.isWhole_whole _) b0M (Memref.isWhole_whole _) b1M (Memref.isWhole_whole _)
    cc0_scratch5 cc0_scratch6 cc0_scratch7 cc0_scratch8 cc0_scratch9 cc0_scratch10 cc0_scoped0 cc0_scoped1 v30 v283 a b k2
abbrev body4 (v30 : BitVec 32) (v283 : BitVec 1) (a b : BitVec 32) (k2 : Fin k0_t2_loop.trips) :=
  k0_t4_body (F := F) L xM (Memref.isWhole_whole _) eM (Memref.isWhole_whole _) iM (Memref.isWhole_whole _) cM (Memref.isWhole_whole _) tM (Memref.isWhole_whole _)
    idsM (Memref.isWhole_whole _) embM (Memref.isWhole_whole _) fbM (Memref.isWhole_whole _) b0M (Memref.isWhole_whole _) b1M (Memref.isWhole_whole _)
    cc0_scratch5 cc0_scratch6 cc0_scratch7 cc0_scratch8 cc0_scratch9 cc0_scratch10 cc0_scoped0 cc0_scoped1 v30 v283 a b k2
abbrev body5 (v30 : BitVec 32) (v155 : IVec S16 32) (v156 : IVec S16 32) (v158 : BitVec 32) (v235 : BitVec 1) (v236 : IVec S1 32) :=
  k0_t5_body (F := F) L xM (Memref.isWhole_whole _) eM (Memref.isWhole_whole _) iM (Memref.isWhole_whole _) cM (Memref.isWhole_whole _) tM (Memref.isWhole_whole _)
    idsM (Memref.isWhole_whole _) embM (Memref.isWhole_whole _) fbM (Memref.isWhole_whole _) b0M (Memref.isWhole_whole _) b1M (Memref.isWhole_whole _)
    cc0_scratch5 cc0_scratch6 cc0_scratch7 cc0_scratch8 cc0_scratch9 cc0_scratch10 cc0_scoped0 cc0_scoped1 v30 v155 v156 v158 v235 v236
abbrev body6 (v30 : BitVec 32) (v155 : IVec S16 32) (v156 : IVec S16 32) (v158 : BitVec 32) (v235 : BitVec 1) (v236 : IVec S1 32) :=
  k0_t6_body (F := F) L xM (Memref.isWhole_whole _) eM (Memref.isWhole_whole _) iM (Memref.isWhole_whole _) cM (Memref.isWhole_whole _) tM (Memref.isWhole_whole _)
    idsM (Memref.isWhole_whole _) embM (Memref.isWhole_whole _) fbM (Memref.isWhole_whole _) b0M (Memref.isWhole_whole _) b1M (Memref.isWhole_whole _)
    cc0_scratch5 cc0_scratch6 cc0_scratch7 cc0_scratch8 cc0_scratch9 cc0_scratch10 cc0_scoped0 cc0_scoped1 v30 v155 v156 v158 v235 v236

/-! ## One trip of each -/

set_option maxHeartbeats 4000000 in
/-- Trip `k` of adding loop 3 adds to row `k` of its row buffer and leaves the pattern. -/
theorem trip3 (v30 : BitVec 32) (v283 : BitVec 1) (a b : BitVec 32) (k2 : Fin k0_t2_loop.trips) (k : Fin k0_t3_loop.trips) (acc : BitVec 32)
    (fx : Buf (Elt F) (b0M.view.loc (thr d L))) (ff : Buf (Elt F) (fbM.view.loc (thr d L))) :
    iprop((fbM.view.loc (thr d L) ↦{fullShare} ff) ∗ (b0M.view.loc (thr d L) ↦{fullShare} fx))
      ⊢ (wp frame (wpE (defs₀ (F := F)) 𝒱₀ (thr d L) none) Set.univ (body3 (F := F) L v30 v283 a b k2 k acc)
          fun _ => iprop((fbM.view.loc (thr d L) ↦{fullShare} ff) ∗ (b0M.view.loc (thr d L) ↦{fullShare} putRow k.val (addG₀ fx ff) fx)) : sProp (MM F)) := by
  unfold body3 k0_t3_body
  iintro ⟨Hf, Hx⟩
  sl_exec_parts
  sl_step
  isplitl [Hf]
  · iexact Hf
  refine Entails.of_eq (congrArg (fun g => (b0M.view.loc (thr d L) ↦{fullShare} g : sProp (MM F))) (writes_pieces_b0 fx (k := k.val) (G := addG₀ fx ff) ?_))
  have hk : k.val < 64 := k.isLt
  repeat (refine And.intro (pieceAt_add₀ b0M.view fbM.view fx ff hk (by decide) _ _ ((ClosedOff.eq).trans rfl) ((ClosedOff.eq).trans rfl) _ _) ?_)
  rfl

set_option maxHeartbeats 4000000 in
/-- Trip `k` of adding loop 4 adds to row `k` of its row buffer and leaves the pattern. -/
theorem trip4 (v30 : BitVec 32) (v283 : BitVec 1) (a b : BitVec 32) (k2 : Fin k0_t2_loop.trips) (k : Fin k0_t4_loop.trips) (acc : BitVec 32)
    (fx : Buf (Elt F) (b0M.view.loc (thr d L))) (ff : Buf (Elt F) (fbM.view.loc (thr d L))) :
    iprop((fbM.view.loc (thr d L) ↦{fullShare} ff) ∗ (b0M.view.loc (thr d L) ↦{fullShare} fx))
      ⊢ (wp frame (wpE (defs₀ (F := F)) 𝒱₀ (thr d L) none) Set.univ (body4 (F := F) L v30 v283 a b k2 k acc)
          fun _ => iprop((fbM.view.loc (thr d L) ↦{fullShare} ff) ∗ (b0M.view.loc (thr d L) ↦{fullShare} putRow k.val (addG fx ff) fx)) : sProp (MM F)) := by
  unfold body4 k0_t4_body
  iintro ⟨Hf, Hx⟩
  sl_exec_parts
  sl_step
  isplitl [Hf]
  · iexact Hf
  refine Entails.of_eq (congrArg (fun g => (b0M.view.loc (thr d L) ↦{fullShare} g : sProp (MM F))) (writes_pieces_b0 fx (k := k.val) (G := addG fx ff) ?_))
  have hk : k.val < 64 := k.isLt
  repeat (refine And.intro (pieceAt_add b0M.view fbM.view fx ff hk (by decide) _ ((ClosedOff.eq).trans rfl) _ _) ?_)
  rfl

set_option maxHeartbeats 4000000 in
/-- Trip `k` of adding loop 5 adds to row `k` of its row buffer and leaves the pattern. -/
theorem trip5 (v30 : BitVec 32) (v155 : IVec S16 32) (v156 : IVec S16 32) (v158 : BitVec 32) (v235 : BitVec 1) (v236 : IVec S1 32) (k : Fin k0_t5_loop.trips) (acc : BitVec 32)
    (fx : Buf (Elt F) (b1M.view.loc (thr d L))) (ff : Buf (Elt F) (fbM.view.loc (thr d L))) :
    iprop((fbM.view.loc (thr d L) ↦{fullShare} ff) ∗ (b1M.view.loc (thr d L) ↦{fullShare} fx))
      ⊢ (wp frame (wpE (defs₀ (F := F)) 𝒱₀ (thr d L) none) Set.univ (body5 (F := F) L v30 v155 v156 v158 v235 v236 k acc)
          fun _ => iprop((fbM.view.loc (thr d L) ↦{fullShare} ff) ∗ (b1M.view.loc (thr d L) ↦{fullShare} putRow k.val (addG₀ fx ff) fx)) : sProp (MM F)) := by
  unfold body5 k0_t5_body
  iintro ⟨Hf, Hx⟩
  sl_exec_parts
  sl_step
  isplitl [Hf]
  · iexact Hf
  refine Entails.of_eq (congrArg (fun g => (b1M.view.loc (thr d L) ↦{fullShare} g : sProp (MM F))) (writes_pieces_b1 fx (k := k.val) (G := addG₀ fx ff) ?_))
  have hk : k.val < 64 := k.isLt
  repeat (refine And.intro (pieceAt_add₀ b1M.view fbM.view fx ff hk (by decide) _ _ ((ClosedOff.eq).trans rfl) ((ClosedOff.eq).trans rfl) _ _) ?_)
  rfl

set_option maxHeartbeats 4000000 in
/-- Trip `k` of adding loop 6 adds to row `k` of its row buffer and leaves the pattern. -/
theorem trip6 (v30 : BitVec 32) (v155 : IVec S16 32) (v156 : IVec S16 32) (v158 : BitVec 32) (v235 : BitVec 1) (v236 : IVec S1 32) (k : Fin k0_t6_loop.trips) (acc : BitVec 32)
    (fx : Buf (Elt F) (b1M.view.loc (thr d L))) (ff : Buf (Elt F) (fbM.view.loc (thr d L))) :
    iprop((fbM.view.loc (thr d L) ↦{fullShare} ff) ∗ (b1M.view.loc (thr d L) ↦{fullShare} fx))
      ⊢ (wp frame (wpE (defs₀ (F := F)) 𝒱₀ (thr d L) none) Set.univ (body6 (F := F) L v30 v155 v156 v158 v235 v236 k acc)
          fun _ => iprop((fbM.view.loc (thr d L) ↦{fullShare} ff) ∗ (b1M.view.loc (thr d L) ↦{fullShare} putRow k.val (addG fx ff) fx)) : sProp (MM F)) := by
  unfold body6 k0_t6_body
  iintro ⟨Hf, Hx⟩
  sl_exec_parts
  sl_step
  isplitl [Hf]
  · iexact Hf
  refine Entails.of_eq (congrArg (fun g => (b1M.view.loc (thr d L) ↦{fullShare} g : sProp (MM F))) (writes_pieces_b1 fx (k := k.val) (G := addG fx ff) ?_))
  have hk : k.val < 64 := k.isLt
  repeat (refine And.intro (pieceAt_add b1M.view fbM.view fx ff hk (by decide) _ ((ClosedOff.eq).trans rfl) _ _) ?_)
  rfl

set_option maxHeartbeats 4000000 in
/-- Trip `k` of the pattern's loop builds row `k` of the pattern. -/
theorem trip1 (v155 : IVec S16 32) (v156 : IVec S16 32) (v158 : BitVec 32) (v177 : BitVec 1) (v180 : BitVec 1) (v181 : IVec S1 32) (k : Fin k0_t1_loop.trips) (acc : BitVec 32)
    (fi : Buf (Elt F) (idsM.view.loc (thr d L))) (fe : Buf (Elt F) (embM.view.loc (thr d L))) (f : Buf (Elt F) (fbM.view.loc (thr d L))) :
    iprop((idsM.view.loc (thr d L) ↦{fullShare} fi) ∗ (embM.view.loc (thr d L) ↦{fullShare} fe) ∗ (fbM.view.loc (thr d L) ↦{fullShare} f))
      ⊢ (wp frame (wpE (defs₀ (F := F)) 𝒱₀ (thr d L) none) Set.univ (body1 (F := F) L v155 v156 v158 v177 v180 v181 k acc)
          fun _ => iprop((idsM.view.loc (thr d L) ↦{fullShare} fi) ∗ (embM.view.loc (thr d L) ↦{fullShare} fe)
            ∗ (fbM.view.loc (thr d L) ↦{fullShare} putRow k.val (fbv (F := F) fi fe) f)) : sProp (MM F)) := by
  unfold body1 k0_t1_body
  iintro ⟨Hi, He, Hf⟩
  sl_exec_parts
  sl_step
  isplitl [Hi]
  · iexact Hi
  isplitl [He]
  · iexact He
  refine Entails.of_eq (congrArg (fun g => (fbM.view.loc (thr d L) ↦{fullShare} g : sProp (MM F))) (writes_pieces_fb f (k := k.val) (G := fbv (F := F) fi fe) ?_))
  have hk : k.val < 64 := k.isLt
  repeat (refine And.intro (pieceAt_pat idsM.view embM.view fi fe hk (by decide) _ _ _ _ _ ((ClosedOff.eq).trans rfl) rfl ((ClosedOff.eq).trans rfl)
    ((ClosedOff.eq).trans rfl) ((ClosedOff.eq).trans rfl) _ _ _) ?_)
  rfl

/-! ## The loops whole, before a continuation -/

/-- The loop runs sixty-four times. -/
theorem trips1 : Scf.trips k0_t1_loop.lb k0_t1_loop.ub k0_t1_loop.st = 64 := rfl
/-- The loop runs sixty-four times. -/
theorem trips3 : Scf.trips k0_t3_loop.lb k0_t3_loop.ub k0_t3_loop.st = 64 := rfl
/-- The loop runs sixty-four times. -/
theorem trips4 : Scf.trips k0_t4_loop.lb k0_t4_loop.ub k0_t4_loop.st = 64 := rfl
/-- The loop runs sixty-four times. -/
theorem trips5 : Scf.trips k0_t5_loop.lb k0_t5_loop.ub k0_t5_loop.st = 64 := rfl
/-- The loop runs sixty-four times. -/
theorem trips6 : Scf.trips k0_t6_loop.lb k0_t6_loop.ub k0_t6_loop.st = 64 := rfl

/-- The pattern's loop leaves the pattern. -/
theorem loop1 {α : Type} (v155 : IVec S16 32) (v156 : IVec S16 32) (v158 : BitVec 32) (v177 : BitVec 1) (v180 : BitVec 1) (v181 : IVec S1 32) (kk : BitVec 32 → Prog (TpuEff nD τ sig (Elt F) Λ₀ (thr d L).2) α) {Q : α → sProp (MM F)}
    (fi : Buf (Elt F) (idsM.view.loc (thr d L))) (fe : Buf (Elt F) (embM.view.loc (thr d L))) (f : Buf (Elt F) (fbM.view.loc (thr d L))) :
    iprop((idsM.view.loc (thr d L) ↦{fullShare} fi) ∗ (embM.view.loc (thr d L) ↦{fullShare} fe) ∗ (fbM.view.loc (thr d L) ↦{fullShare} f))
      ⊢ (iprop((∀ acc, iprop((idsM.view.loc (thr d L) ↦{fullShare} fi) ∗ (embM.view.loc (thr d L) ↦{fullShare} fe) ∗ (fbM.view.loc (thr d L) ↦{fullShare} fbv (F := F) fi fe))
            -∗ wp frame (wpE (defs₀ (F := F)) 𝒱₀ (thr d L) none) Set.univ (kk acc) Q)
          -∗ wp frame (wpE (defs₀ (F := F)) 𝒱₀ (thr d L) none) Set.univ (Scf.Loop.for k0_t1_loop k0_t1_ok 0#32 (body1 (F := F) L v155 v156 v158 v177 v180 v181) >>= kk) Q) : sProp (MM F)) := by
  have h := Scf.wp_for_bind frame (wpE (defs₀ (F := F)) 𝒱₀ (thr d L) none) Set.univ k0_t1_loop.lb k0_t1_loop.ub k0_t1_loop.st k0_t1_ok 0#32 (body1 (F := F) L v155 v156 v158 v177 v180 v181)
    (fun n _ => iprop((idsM.view.loc (thr d L) ↦{fullShare} fi) ∗ (embM.view.loc (thr d L) ↦{fullShare} fe) ∗ (fbM.view.loc (thr d L) ↦{fullShare} putRows n (fbv (F := F) fi fe) f)))
    (fun k acc => by
      have h := trip1 (F := F) d L v155 v156 v158 v177 v180 v181 k acc fi fe (putRows k.val (fbv (F := F) fi fe) f)
      rwa [putRow_putRows] at h) (kk := kk) (Q := Q)
  rwa [putRows_zero, trips1, putRows_full] at h

/-- Adding loop 3 leaves the sum. -/
theorem loop3 {α : Type} (v30 : BitVec 32) (v283 : BitVec 1) (a b : BitVec 32) (k2 : Fin k0_t2_loop.trips) (kk : BitVec 32 → Prog (TpuEff nD τ sig (Elt F) Λ₀ (thr d L).2) α) {Q : α → sProp (MM F)}
    (fx : Buf (Elt F) (b0M.view.loc (thr d L))) (ff : Buf (Elt F) (fbM.view.loc (thr d L))) :
    iprop((fbM.view.loc (thr d L) ↦{fullShare} ff) ∗ (b0M.view.loc (thr d L) ↦{fullShare} fx))
      ⊢ (iprop((∀ acc, iprop((fbM.view.loc (thr d L) ↦{fullShare} ff) ∗ (b0M.view.loc (thr d L) ↦{fullShare} addG₀ fx ff))
            -∗ wp frame (wpE (defs₀ (F := F)) 𝒱₀ (thr d L) none) Set.univ (kk acc) Q)
          -∗ wp frame (wpE (defs₀ (F := F)) 𝒱₀ (thr d L) none) Set.univ (Scf.Loop.for k0_t3_loop k0_t3_ok 0#32 (body3 (F := F) L v30 v283 a b k2) >>= kk) Q) : sProp (MM F)) := by
  have h := Scf.wp_for_bind frame (wpE (defs₀ (F := F)) 𝒱₀ (thr d L) none) Set.univ k0_t3_loop.lb k0_t3_loop.ub k0_t3_loop.st k0_t3_ok 0#32 (body3 (F := F) L v30 v283 a b k2)
    (fun n _ => iprop((fbM.view.loc (thr d L) ↦{fullShare} ff) ∗ (b0M.view.loc (thr d L) ↦{fullShare} putRows n (addG₀ fx ff) fx)))
    (fun k acc => by
      have h := trip3 (F := F) d L v30 v283 a b k2 k acc (putRows k.val (addG₀ fx ff) fx) ff
      rwa [putRow_congr (G' := addG₀ fx ff) fun y e => congrArg (FloatOps.addf · _) (putRows_of_le e.ge), putRow_putRows] at h) (kk := kk) (Q := Q)
  rwa [putRows_zero, trips3, putRows_full] at h

/-- Adding loop 4 leaves the sum. -/
theorem loop4 {α : Type} (v30 : BitVec 32) (v283 : BitVec 1) (a b : BitVec 32) (k2 : Fin k0_t2_loop.trips) (kk : BitVec 32 → Prog (TpuEff nD τ sig (Elt F) Λ₀ (thr d L).2) α) {Q : α → sProp (MM F)}
    (fx : Buf (Elt F) (b0M.view.loc (thr d L))) (ff : Buf (Elt F) (fbM.view.loc (thr d L))) :
    iprop((fbM.view.loc (thr d L) ↦{fullShare} ff) ∗ (b0M.view.loc (thr d L) ↦{fullShare} fx))
      ⊢ (iprop((∀ acc, iprop((fbM.view.loc (thr d L) ↦{fullShare} ff) ∗ (b0M.view.loc (thr d L) ↦{fullShare} addG fx ff))
            -∗ wp frame (wpE (defs₀ (F := F)) 𝒱₀ (thr d L) none) Set.univ (kk acc) Q)
          -∗ wp frame (wpE (defs₀ (F := F)) 𝒱₀ (thr d L) none) Set.univ (Scf.Loop.for k0_t4_loop k0_t4_ok 0#32 (body4 (F := F) L v30 v283 a b k2) >>= kk) Q) : sProp (MM F)) := by
  have h := Scf.wp_for_bind frame (wpE (defs₀ (F := F)) 𝒱₀ (thr d L) none) Set.univ k0_t4_loop.lb k0_t4_loop.ub k0_t4_loop.st k0_t4_ok 0#32 (body4 (F := F) L v30 v283 a b k2)
    (fun n _ => iprop((fbM.view.loc (thr d L) ↦{fullShare} ff) ∗ (b0M.view.loc (thr d L) ↦{fullShare} putRows n (addG fx ff) fx)))
    (fun k acc => by
      have h := trip4 (F := F) d L v30 v283 a b k2 k acc (putRows k.val (addG fx ff) fx) ff
      rwa [putRow_congr (G' := addG fx ff) fun y e => congrArg (FloatOps.addf · _) (putRows_of_le e.ge), putRow_putRows] at h) (kk := kk) (Q := Q)
  rwa [putRows_zero, trips4, putRows_full] at h

/-- Adding loop 5 leaves the sum. -/
theorem loop5 {α : Type} (v30 : BitVec 32) (v155 : IVec S16 32) (v156 : IVec S16 32) (v158 : BitVec 32) (v235 : BitVec 1) (v236 : IVec S1 32) (kk : BitVec 32 → Prog (TpuEff nD τ sig (Elt F) Λ₀ (thr d L).2) α) {Q : α → sProp (MM F)}
    (fx : Buf (Elt F) (b1M.view.loc (thr d L))) (ff : Buf (Elt F) (fbM.view.loc (thr d L))) :
    iprop((fbM.view.loc (thr d L) ↦{fullShare} ff) ∗ (b1M.view.loc (thr d L) ↦{fullShare} fx))
      ⊢ (iprop((∀ acc, iprop((fbM.view.loc (thr d L) ↦{fullShare} ff) ∗ (b1M.view.loc (thr d L) ↦{fullShare} addG₀ fx ff))
            -∗ wp frame (wpE (defs₀ (F := F)) 𝒱₀ (thr d L) none) Set.univ (kk acc) Q)
          -∗ wp frame (wpE (defs₀ (F := F)) 𝒱₀ (thr d L) none) Set.univ (Scf.Loop.for k0_t5_loop k0_t5_ok 0#32 (body5 (F := F) L v30 v155 v156 v158 v235 v236) >>= kk) Q) : sProp (MM F)) := by
  have h := Scf.wp_for_bind frame (wpE (defs₀ (F := F)) 𝒱₀ (thr d L) none) Set.univ k0_t5_loop.lb k0_t5_loop.ub k0_t5_loop.st k0_t5_ok 0#32 (body5 (F := F) L v30 v155 v156 v158 v235 v236)
    (fun n _ => iprop((fbM.view.loc (thr d L) ↦{fullShare} ff) ∗ (b1M.view.loc (thr d L) ↦{fullShare} putRows n (addG₀ fx ff) fx)))
    (fun k acc => by
      have h := trip5 (F := F) d L v30 v155 v156 v158 v235 v236 k acc (putRows k.val (addG₀ fx ff) fx) ff
      rwa [putRow_congr (G' := addG₀ fx ff) fun y e => congrArg (FloatOps.addf · _) (putRows_of_le e.ge), putRow_putRows] at h) (kk := kk) (Q := Q)
  rwa [putRows_zero, trips5, putRows_full] at h

/-- Adding loop 6 leaves the sum. -/
theorem loop6 {α : Type} (v30 : BitVec 32) (v155 : IVec S16 32) (v156 : IVec S16 32) (v158 : BitVec 32) (v235 : BitVec 1) (v236 : IVec S1 32) (kk : BitVec 32 → Prog (TpuEff nD τ sig (Elt F) Λ₀ (thr d L).2) α) {Q : α → sProp (MM F)}
    (fx : Buf (Elt F) (b1M.view.loc (thr d L))) (ff : Buf (Elt F) (fbM.view.loc (thr d L))) :
    iprop((fbM.view.loc (thr d L) ↦{fullShare} ff) ∗ (b1M.view.loc (thr d L) ↦{fullShare} fx))
      ⊢ (iprop((∀ acc, iprop((fbM.view.loc (thr d L) ↦{fullShare} ff) ∗ (b1M.view.loc (thr d L) ↦{fullShare} addG fx ff))
            -∗ wp frame (wpE (defs₀ (F := F)) 𝒱₀ (thr d L) none) Set.univ (kk acc) Q)
          -∗ wp frame (wpE (defs₀ (F := F)) 𝒱₀ (thr d L) none) Set.univ (Scf.Loop.for k0_t6_loop k0_t6_ok 0#32 (body6 (F := F) L v30 v155 v156 v158 v235 v236) >>= kk) Q) : sProp (MM F)) := by
  have h := Scf.wp_for_bind frame (wpE (defs₀ (F := F)) 𝒱₀ (thr d L) none) Set.univ k0_t6_loop.lb k0_t6_loop.ub k0_t6_loop.st k0_t6_ok 0#32 (body6 (F := F) L v30 v155 v156 v158 v235 v236)
    (fun n _ => iprop((fbM.view.loc (thr d L) ↦{fullShare} ff) ∗ (b1M.view.loc (thr d L) ↦{fullShare} putRows n (addG fx ff) fx)))
    (fun k acc => by
      have h := trip6 (F := F) d L v30 v155 v156 v158 v235 v236 k acc (putRows k.val (addG fx ff) fx) ff
      rwa [putRow_congr (G' := addG fx ff) fun y e => congrArg (FloatOps.addf · _) (putRows_of_le e.ge), putRow_putRows] at h) (kk := kk) (Q := Q)
  rwa [putRows_zero, trips6, putRows_full] at h

end Cert.Proof.Slot

end
-- ==== Proof.Uniform.lean ====
/-
  The kernel's test that a tile's block holds one type: the running minimum and maximum of its 32 groups of types, and the comparison of
  their sixteen lanes with the minimum's first.
-/
module

public import proofs.«01_k».proof.Proof.Loops

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

/-- Lane `k` of sixteen, as the kernel takes it. -/
def lane (x : IVec S16 32) (k : Fin 16) : BitVec 32 :=
  extractAt ![0] (extractStridedSlice S1 ![k.val] x ⟨rfl, fun a => by match a with | 0 => show k.val + 1 ≤ 16; omega⟩) (by decide)

/-- A lane read out of a vector. -/
theorem lane_eq (x : IVec S16 32) (k : Fin 16) : lane x k = x (ix1 k) :=
  congrArg x (funext fun a => by match a with | 0 => rfl)

/-- Lane `k` of the minimum and of the maximum are both the minimum's first lane. -/
def agree (mn mx : IVec S16 32) (k : Fin 16) : BitVec 1 :=
  Scalar.andi (Scalar.cmpi .eq (lane mn k) (lane mn 0)) (Scalar.cmpi .eq (lane mx k) (lane mn 0))

/-- All lanes up to `k` agree. -/
def agreeTo (mn mx : IVec S16 32) : ℕ → BitVec 1
  | 0 => Scalar.cmpi .eq (lane mx 0) (lane mn 0)
  | k + 1 => Scalar.andi (agreeTo mn mx k) (agree mn mx (Fin.ofNat 16 (k + 1)))

/-- Both sides of an `and` that is one are one. -/
theorem andi_one {a b : BitVec 1} (h : Scalar.andi a b = 1#1) : a = 1#1 ∧ b = 1#1 := by
  revert a b; decide

/-- Words that compare equal are equal. -/
theorem cmpi_one {a b : BitVec 32} (h : Scalar.cmpi .eq a b = 1#1) : a = b := by
  by_cases e : a = b
  · exact e
  · have e' : (a == b) = false := beq_eq_false_iff_ne.mpr e
    have h' : BitVec.ofBool (a == b) = 1#1 := h
    rw [e'] at h'; exact absurd h' (by decide)

/-- When the test holds up to a lane, the minima and maxima agree with the first up to it. -/
theorem agreeTo_lanes (mn mx : IVec S16 32) : ∀ (n : ℕ), n < 16 → agreeTo mn mx n = 1#1 →
    ∀ k : Fin 16, k.val ≤ n → mn (ix1 k) = mn (ix1 0) ∧ mx (ix1 k) = mn (ix1 0)
  | 0, _, h, k, hk => by
    obtain rfl : k = 0 := Fin.ext (by show k.val = 0; omega)
    have h := cmpi_one h
    rw [lane_eq, lane_eq] at h
    exact ⟨rfl, h⟩
  | n + 1, hn, h, k, hk => by
    obtain ⟨h₁, h₂⟩ := andi_one h
    rcases Nat.lt_or_ge n k.val with hlt | hle
    · have e : (Fin.ofNat 16 (n + 1)) = k := Fin.ext (by show (n + 1) % 16 = k.val; omega)
      rw [e] at h₂
      obtain ⟨h₃, h₄⟩ := andi_one h₂
      have h₃ := cmpi_one h₃; have h₄ := cmpi_one h₄
      rw [lane_eq, lane_eq] at h₃ h₄
      exact ⟨h₃, h₄⟩
    · exact agreeTo_lanes mn mx n (by omega) h₁ k hle

/-- On each lane the first `n` groups of the types `fi` lie between `mn` and `mx`. -/
def Bounds (fi : S512.Idx → BitVec 32) (n : ℕ) (mn mx : IVec S16 32) : Prop :=
  ∀ (i : Fin 16) (σ : Fin 512), σ.val % 16 = i.val → σ.val / 16 < n →
    (mn (ix1 i)).toInt ≤ (fi (ix1 σ)).toInt ∧ (fi (ix1 σ)).toInt ≤ (mx (ix1 i)).toInt

/-- A signed minimum is at most both. -/
theorem minsi_le (x y : BitVec 32) : (IntOp.minsi x y).toInt ≤ x.toInt ∧ (IntOp.minsi x y).toInt ≤ y.toInt := by
  unfold IntOp.minsi
  split <;> rename_i h <;> rw [BitVec.slt_iff_toInt_lt] at h <;> omega

/-- A signed maximum is at least both. -/
theorem le_maxsi (x y : BitVec 32) : x.toInt ≤ (IntOp.maxsi x y).toInt ∧ y.toInt ≤ (IntOp.maxsi x y).toInt := by
  unfold IntOp.maxsi
  split <;> rename_i h <;> rw [BitVec.slt_iff_toInt_lt] at h <;> omega

/-- Group `g` of the types, as loaded. -/
def IsGroup (fi : S512.Idx → BitVec 32) (g : ℕ) (w : IVec S16 32) : Prop :=
  ∀ (i : Fin 16) (σ : Fin 512), σ.val % 16 = i.val → σ.val / 16 = g → w (ix1 i) = fi (ix1 σ)

/-- The first group bounds itself. -/
theorem Bounds.one {fi : S512.Idx → BitVec 32} {w : IVec S16 32} (h : IsGroup fi 0 w) : Bounds fi 1 w w := fun i σ h₁ h₂ => by
  rw [h i σ h₁ (by omega)]; exact ⟨le_rfl, le_rfl⟩

/-- The minimum and maximum with one more group bound it too. -/
theorem Bounds.next {fi : S512.Idx → BitVec 32} {n : ℕ} {mn mx w : IVec S16 32} (hb : Bounds fi n mn mx) (h : IsGroup fi n w) :
    Bounds fi (n + 1) (minsi mn w) (maxsi mx w) := fun i σ h₁ h₂ => by
  have hm := minsi_le (mn (ix1 i)) (w (ix1 i))
  have hM := le_maxsi (mx (ix1 i)) (w (ix1 i))
  show (IntOp.minsi (mn (ix1 i)) (w (ix1 i))).toInt ≤ _ ∧ _ ≤ (IntOp.maxsi (mx (ix1 i)) (w (ix1 i))).toInt
  rcases Nat.lt_or_ge (σ.val / 16) n with hlt | hge
  · have := hb i σ h₁ hlt; omega
  · rw [← h i σ h₁ (by omega)]; omega

/-- Sixteen loaded types, cast to their own shape, are their group. -/
theorem isGroup_read {κ : Kind} {sp : Space} (v : View sig κ sp S512 .i32) (f : v.ty.Contents (Elt F)) {g : ℕ} (hg : g < 32) {off : Fin 1 → ℕ}
    (inb : ∀ a, off a + S16.size a ≤ S512.size a) (hoff : off = ![16 * g]) (c : S16.ShapeCasts S16) :
    IsGroup (v.read (Elt F) f) g (shapeCast S16 (v.readAt (Elt F) (Rect.unit (s := S512) off S16.size inb).toLoadRect f) c) := fun i σ h₁ h₂ => by
  refine ((congrFun (shapeCast_self _ c) (ix1 i)).trans (read_ids v f hg inb hoff i)).trans ?_
  exact congrArg (fun t => v.read (Elt F) f (ix1 t)) (Fin.ext (by show 16 * g + i.val = σ.val; omega))

/-- If all lanes agree, the block holds one type. -/
theorem uniform_of {fi : S512.Idx → BitVec 32} {mn mx : IVec S16 32} (hb : Bounds fi 32 mn mx) (h : agreeTo mn mx 15 = 1#1) (σ σ' : Fin 512) :
    fi (ix1 σ) = fi (ix1 σ') := by
  have key : ∀ σ : Fin 512, fi (ix1 σ) = mn (ix1 0) := fun σ => by
    obtain ⟨h₁, h₂⟩ := agreeTo_lanes mn mx 15 (by omega) h ⟨σ.val % 16, by omega⟩ (by show σ.val % 16 ≤ 15; omega)
    have := hb ⟨σ.val % 16, by omega⟩ σ rfl (by have := σ.isLt; omega)
    rw [h₁, h₂] at this
    exact BitVec.toInt_inj.mp (by omega)
  rw [key σ, key σ']

/-- With one type in the block the pattern repeats its first sixteen lanes, so that adding those is adding the pattern. -/
theorem addG₀_uniform {fi : S512.Idx → BitVec 32} (h : ∀ σ σ' : Fin 512, fi (ix1 σ) = fi (ix1 σ')) (fe : S64x48.Idx → Elt F .f32) (fx : S64x512.Idx → Elt F .f32) :
    addG₀ fx (fbv (F := F) fi fe) = addG fx (fbv (F := F) fi fe) := by
  funext y
  refine congrArg (FloatOps.addf (fx y)) ?_
  have hc : ∀ t : Fin 3, ecol t (lane0 (y 1)) = ecol t (y 1) := fun t =>
    Fin.ext (by show 16 * t.val + ((y 1).val % 16) % 16 = 16 * t.val + (y 1).val % 16; omega)
  show pick (F := F) (fi (ix1 (lane0 (y 1)))) (fe (ix2 (y 0) (ecol 0 (lane0 (y 1))))) (fe (ix2 (y 0) (ecol 1 (lane0 (y 1)))))
    (fe (ix2 (y 0) (ecol 2 (lane0 (y 1))))) = _
  rw [hc, hc, hc, h (lane0 (y 1)) (y 1)]; rfl

end Cert.Proof.Slot

end
-- ==== Proof.Geom.lean ====
/-
  The rows a tile works on: where each row lies in the arrays, what reading one gives and what writing one leaves.
-/
module

public import proofs.«01_k».proof.Proof.Uniform

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

/-! ## Where a tile's rows lie -/

/-- The first slot of a tile's block. -/
def s0 (L : grid0.Coords) : ℕ := ((L 1).val * 2 + (L 0).val) % 8 * 512
/-- The first batch row of a tile's block. -/
def r0 (L : grid0.Coords) : ℕ := ((L 1).val * 2 + (L 0).val) / 8 * 64
/-- A tile's slots lie within the array. -/
theorem s0_le (L : grid0.Coords) : s0 L + 512 ≤ 4096 := by unfold s0; omega
/-- A tile's number is below thirty-two. -/
theorem wid_lt (L : grid0.Coords) : (L 1).val * 2 + (L 0).val < 32 := by
  have h1 : (L 1).val < 16 := (L 1).isLt
  have h0 : (L 0).val < 2 := (L 0).isLt
  omega
/-- A tile's batch entries lie within the array. -/
theorem r0_le (L : grid0.Coords) : r0 L + 64 ≤ 256 := by have := wid_lt L; unfold r0; omega

/-- The types a tile copies in start at its first slot. -/
theorem off1_eq : ∀ L : grid0.Coords, k0_off1 L = ![s0 L] := by decide +kernel
/-- The first block a tile copies in is its first batch entry's. -/
theorem off37_eq : ∀ L : grid0.Coords, k0_off37 L = ![r0 L, 0, s0 L] := by decide +kernel
/-- Where a trip's first block of the copy goes. -/
theorem off40_eq : ∀ (L : grid0.Coords) (k : Fin k0_t2_loop.trips), k0_off40 L k = ![r0 L + 2 * k.val, 0, s0 L] := by decide +kernel
/-- Where a trip's first block of the sum goes. -/
theorem off105_eq : ∀ (L : grid0.Coords) (k : Fin k0_t2_loop.trips), k0_off105 L k = ![r0 L + 2 * k.val, 0, s0 L] := by decide +kernel
/-- Where a trip's second block is copied in from. -/
theorem off39_eq : ∀ (L : grid0.Coords) (k : Fin k0_t2_loop.trips), k0_off39 L k = ![r0 L + (2 * k.val + 1), 0, s0 L] := by decide +kernel
/-- Where a trip's second block lies. -/
theorem off106_eq : ∀ (L : grid0.Coords) (k : Fin k0_t2_loop.trips), k0_off106 L k = ![r0 L + (2 * k.val + 1), 0, s0 L] := by decide +kernel
/-- Unless the trip is the last, the block copied in ahead is the next trip's first. -/
theorem off107_eq : ∀ (L : grid0.Coords) (k : Fin k0_t2_loop.trips), k0_cond4 k = 1#1 → k0_off107 L k = ![r0 L + 2 * (k.val + 1), 0, s0 L] := by decide +kernel
/-- The wait for the odd row of the trip before happens at every trip but the first. -/
theorem cond1_iff : ∀ k : Fin k0_t2_loop.trips, k0_cond1 k = 1#1 ↔ k.val ≠ 0 := by decide +kernel
/-- The next even row is fetched at every trip but the last. -/
theorem cond4_iff : ∀ k : Fin k0_t2_loop.trips, k0_cond4 k = 1#1 ↔ k.val ≠ 31 := by decide +kernel

/-! ## Reading a row and writing one -/

local notation "row[" m ", " off ", " h "]" =>
  Memref.squeeze (Memref.slice m (Rect.unit (s := S256x64x4096) off S1x64x512.size h) (fun _ => rfl)) S64x512 squeezes_S1x64x512_S64x512

/-- Position `y` of the row at `off`, as a position of the whole array. -/
def rowAt (off : Fin 3 → ℕ) (h : ∀ a, off a + S1x64x512.size a ≤ S256x64x4096.size a) (y : S64x512.Idx) : S256x64x4096.Idx :=
  (Rect.unit (s := S256x64x4096) off S1x64x512.size h).emb (Shape.reshapeEquiv squeezes_S1x64x512_S64x512.numel_eq y)

/-- The coordinates, in the whole array, of a block's element. -/
theorem rowAt_val (off : Fin 3 → ℕ) (h) (y : S64x512.Idx) :
    (rowAt off h y 0).val = off 0 ∧ (rowAt off h y 1).val = off 1 + (y 0).val ∧ (rowAt off h y 2).val = off 2 + (y 1).val := by
  have e : Shape.reshapeEquiv squeezes_S1x64x512_S64x512.numel_eq y = Fin.cons (⟨0, Nat.one_pos⟩ : Fin 1) y := Shape.reshapeEquiv_cons_one (d := ![64, 512]) _ y
  unfold rowAt
  rw [e]
  refine ⟨?_, ?_, ?_⟩
  · show off 0 + 1 * 0 = _; omega
  · show off 1 + 1 * (y 0).val = _; omega
  · show off 2 + 1 * (y 1).val = _; omega

/-- Rows at equal offsets are the same positions. -/
theorem rowAt_congr {off off' : Fin 3 → ℕ} (e : off = off') (h h') (y : S64x512.Idx) : rowAt off h y = rowAt off' h' y := by
  subst e; rfl

/-- Writing a row leaves, on the row, any array that reads the written values there. -/
theorem writes_row {κ : Kind} {sp : Space} {s : Shape} (v : View sig κ sp s .f32) (f T : v.ty.Contents (Elt F)) (w : s.Idx → Elt F .f32)
    (h : ∀ y, w y = v.read (Elt F) T y) : ∀ i ∈ v.set, v.writes (Elt F) f [⟨Rect.whole s, w⟩] i = T i := by
  intro i hi
  obtain ⟨y, -, rfl⟩ := Finset.mem_map.mp hi
  have hr : v.read (Elt F) (v.writes (Elt F) f [⟨Rect.whole s, w⟩]) y = v.read (Elt F) T y := by
    rw [← h y]
    have := View.read_writes_cons_emb (v := v) (f := f) (Rect.whole s) w [] y
    rwa [Rect.emb_whole_apply] at this
  rw [View.read_apply, View.read_apply] at hr
  exact (cast_inj _).mp hr

/-! ## The values at the whole arrays -/

/-- The sum the typed output holds at a position: the slot's state and the table's entry for the slot's type. -/
def tyV (vx : S256x64x4096.Idx → Elt F .f32) (ve : S64x48.Idx → Elt F .f32) (vi : S4096.Idx → Elt F .i32) (i : S256x64x4096.Idx) : Elt F .f32 :=
  FloatOps.addf (vx i) (pick (F := F) (vi (ix1 (i 2)))
    (ve (ix2 (i 1) (ecol 0 (Fin.ofNat 512 (i 2).val)))) (ve (ix2 (i 1) (ecol 1 (Fin.ofNat 512 (i 2).val)))) (ve (ix2 (i 1) (ecol 2 (Fin.ofNat 512 (i 2).val)))))

/-- The types of the slots of a tile's block. -/
def blockIds (L : grid0.Coords) (vi : S4096.Idx → Elt F .i32) (y : S512.Idx) : Elt F .i32 :=
  vi (ix1 (⟨s0 L + (y 0).val, by have := s0_le L; have : (y 0).val < 512 := (y 0).isLt; omega⟩ : Fin 4096))

/-- The spread table's column depends on the lane alone. -/
theorem ecol_congr (t : Fin 3) {σ σ' : Fin 512} (h : σ.val % 16 = σ'.val % 16) : ecol t σ = ecol t σ' := by
  apply Fin.ext; simp only [ecol, h]

/-- The sum at a position of one of the tile's rows is the row's entry plus the pattern's. -/
theorem tyV_rowAt (vx : S256x64x4096.Idx → Elt F .f32) (ve : S64x48.Idx → Elt F .f32) (vi : S4096.Idx → Elt F .i32) {j : ℕ} (off : Fin 3 → ℕ) (h)
    (e : off = ![r0 L + j, 0, s0 L]) (y : S64x512.Idx) :
    tyV vx ve vi (rowAt off h y) = addG (fun y => vx (rowAt off h y)) (fbv (blockIds L vi) ve) y := by
  obtain ⟨h0, h1, h2⟩ := rowAt_val off h y
  have e1 : rowAt off h y 1 = y 0 := Fin.ext (h1.trans (by rw [show off 1 = 0 from congrFun e 1]; exact Nat.zero_add _))
  have e2 : rowAt off h y 2 = (⟨s0 L + (y 1).val, by have := s0_le L; have : (y 1).val < 512 := (y 1).isLt; omega⟩ : Fin 4096) :=
    Fin.ext (h2.trans (by rw [show off 2 = s0 L from congrFun e 2]))
  have ec : ∀ t, ecol t (Fin.ofNat 512 (rowAt off h y 2).val) = ecol t (y 1) := fun t => ecol_congr t (by
    have : (y 1).val < 512 := (y 1).isLt
    rw [e2]; show (s0 L + (y 1).val) % 512 % 16 = (y 1).val % 16
    unfold s0; omega)
  unfold tyV
  rw [ec, ec, ec, e1, e2]
  rfl

end Cert.Proof.Slot

end
-- ==== Proof.Pair.lean ====
/-
  One trip of the tile's pair loop: what it needs and what it leaves.
-/
module

public import proofs.«01_k».proof.Proof.Geom
public import proofs.«01_k».proof.Proof.Loops

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

local notation "row[" m ", " off ", " h "]" =>
  Memref.squeeze (Memref.slice m (Rect.unit (s := S256x64x4096) off S1x64x512.size h) (fun _ => rfl)) S64x512 squeezes_S1x64x512_S64x512

abbrev body2 (v30 : BitVec 32) (v155 : IVec S16 32) (v156 : IVec S16 32) (v158 : BitVec 32) (v235 : BitVec 1) (v236 : IVec S1 32) (v283 : BitVec 1) :=
  k0_t2_body (F := F) L xM (Memref.isWhole_whole _) eM (Memref.isWhole_whole _) iM (Memref.isWhole_whole _) cM (Memref.isWhole_whole _) tM (Memref.isWhole_whole _)
    idsM (Memref.isWhole_whole _) embM (Memref.isWhole_whole _) fbM (Memref.isWhole_whole _) b0M (Memref.isWhole_whole _) b1M (Memref.isWhole_whole _)
    cc0_scratch5 cc0_scratch6 cc0_scratch7 cc0_scratch8 cc0_scratch9 cc0_scratch10 cc0_scoped0 cc0_scoped1 v30 v155 v156 v158 v235 v236 v283

/-- `g` is row `n` of the tile's block of `vx`. -/
def IsRow (vx : S256x64x4096.Idx → Elt F .f32) (n : ℕ) (g : S64x512.Idx → Elt F .f32) : Prop :=
  ∀ (off : Fin 3 → ℕ) (h : ∀ a, off a + S1x64x512.size a ≤ S256x64x4096.size a), off = ![r0 L + n, 0, s0 L] → ∀ y, g y = vx (rowAt off h y)

/-- The rows of pair `k` that the trip `k` finishes: both rows of the copy and the even row of the sum. -/
def rowsA (gc gt : S256x64x4096.Idx → Elt F .f32) (k : Fin k0_t2_loop.trips) : sProp (MM F) :=
  iprop((row[cM, k0_off40 L k, k0_off40_inb L k].view.loc (thr d L) ↦[row[cM, k0_off40 L k, k0_off40_inb L k].view.set]{fullShare} gc)
    ∗ (row[cM, k0_off106 L k, k0_off106_inb L k].view.loc (thr d L) ↦[row[cM, k0_off106 L k, k0_off106_inb L k].view.set]{fullShare} gc)
    ∗ (row[tM, k0_off105 L k, k0_off105_inb L k].view.loc (thr d L) ↦[row[tM, k0_off105 L k, k0_off105_inb L k].view.set]{fullShare} gt))

/-- The odd row of pair `k` of the sum, which the next trip sees finished. -/
def rowsB (gt : S256x64x4096.Idx → Elt F .f32) (k : Fin k0_t2_loop.trips) : sProp (MM F) :=
  row[tM, k0_off106 L k, k0_off106_inb L k].view.loc (thr d L) ↦[row[tM, k0_off106 L k, k0_off106_inb L k].view.set]{fullShare} gt

/-- The fetch of the even row of pair `k`, on its way into the first buffer; after the last trip, the buffer at rest. -/
def coming (q0 : PosShare TreeShare) (vx : S256x64x4096.Idx → Elt F .f32) (k : ℕ) : sProp (MM F) :=
  if k < 32 then
    iprop(∃ (g : Buf (Elt F) (b0M.view.loc (thr d L))) (S : Finset S256x64x4096.Idx), ⌜IsRow L vx (2 * k) g⌝
      ∗ Transfers.Flight (countersEmb (U := UU)) (thr d L) (.dma cc0_scratch5.sem) (none : HIx 1) (b0M.view.amount (SemLoc.dma cc0_scratch5.sem))
          iprop((b0M.view.loc (thr d L) ↦{fullShare} g) ∗ (xM.view.loc (thr d L) ↦[S]{q0} vx))
      ∗ (xM.view.loc (thr d L) ↦[Finset.univ \ S]{q0} vx))
  else iprop((∃ g, b0M.view.loc (thr d L) ↦{fullShare} g) ∗ semVal (thr d L, SemLoc.dma cc0_scratch5.sem) 0 ∗ (xM.view.loc (thr d L) ↦{q0} vx))

/-- The odd row of the sum of the pair before `k`, on its way out of the second buffer; at the first trip, the buffer at rest. -/
def going (gt : S256x64x4096.Idx → Elt F .f32) (k : ℕ) : sProp (MM F) :=
  if k = 0 then iprop((∃ g, b1M.view.loc (thr d L) ↦{fullShare} g) ∗ semVal (thr d L, SemLoc.dma cc0_scratch10.sem) 0)
  else iprop(∃ (kp : Fin k0_t2_loop.trips) (g : Buf (Elt F) (b1M.view.loc (thr d L))), ⌜kp.val + 1 = k⌝
    ∗ Transfers.Flight (countersEmb (U := UU)) (thr d L) (.dma cc0_scratch10.sem) (none : HIx 1) (row[tM, k0_off106 L kp, k0_off106_inb L kp].view.amount (SemLoc.dma cc0_scratch10.sem))
        iprop((row[tM, k0_off106 L kp, k0_off106_inb L kp].view.loc (thr d L) ↦[row[tM, k0_off106 L kp, k0_off106_inb L kp].view.set]{fullShare} gt)
          ∗ (b1M.view.loc (thr d L) ↦{fullShare} g)))

/-- What the trip `k` sees finished of the odd rows of the sum. -/
def cameBack (gt : S256x64x4096.Idx → Elt F .f32) (k : ℕ) : sProp (MM F) :=
  if k = 0 then iprop(emp) else iprop(∃ kp : Fin k0_t2_loop.trips, ⌜kp.val + 1 = k⌝ ∗ rowsB d L gt kp)

/-- What a trip holds besides the arrays: the pattern, a share of `x`, the other semaphores, what it may wait on. -/
def side (O : CellTallies nD τ sig (HIx 1)) (W : Waits sig (HIx 1)) (q1 : PosShare TreeShare) (vx : S256x64x4096.Idx → Elt F .f32) (ff : S64x512.Idx → Elt F .f32) : sProp (MM F) :=
  iprop(Transfers.MayWaits (thr d L) (none : HIx 1) O ∗ (fbM.view.loc (thr d L) ↦{fullShare} ff) ∗ (xM.view.loc (thr d L) ↦{q1} vx)
    ∗ semVal (thr d L, SemLoc.dma cc0_scratch6.sem) 0 ∗ semVal (thr d L, SemLoc.dma cc0_scratch7.sem) 0
    ∗ semVal (thr d L, SemLoc.dma cc0_scratch8.sem) 0 ∗ semVal (thr d L, SemLoc.dma cc0_scratch9.sem) 0
    ∗ (∃ W', ⌜∀ p ∈ W', p ∈ W ∨ p.2 = none⌝ ∗ owes (thr d L) O W'))

/-! ## The pieces of a trip's end -/

/-- A row written with the values an array reads there holds that array. -/
theorem landed {sp : Space} {s : Shape} (v : View sig (thr d L).2.kind sp s .f32) (f T : Buf (Elt F) (v.loc (thr d L))) (w : s.Idx → Elt F .f32) :
    (iprop((v.loc (thr d L) ↦[v.set]{fullShare} v.writes (Elt F) f [⟨Rect.whole s, w⟩]) ∗ ⌜∀ y, w y = v.read (Elt F) T y⌝) : sProp (MM F)) ⊢ v.loc (thr d L) ↦[v.set]{fullShare} T := by
  iintro ⟨H, %h⟩
  iapply (Entails.of_eq (pointsTo_congr (writes_row v f T w h))) $$ H

/-- Writing the whole second buffer leaves what is written. -/
theorem write_b1 (f w : S64x512.Idx → Elt F .f32) : View.write (Elt F) b1M.view f w Finset.univ = w := View.write_whole_univ ..

/-- A fetch just started is the next trip's. -/
theorem coming_of {q0 : PosShare TreeShare} {vx : S256x64x4096.Idx → Elt F .f32} {n : ℕ} (hn : n < 32) (f w : S64x512.Idx → Elt F .f32) (S : Finset S256x64x4096.Idx)
    (hw : IsRow L vx (2 * n) w) :
    iprop(Transfers.Flight (countersEmb (U := UU)) (thr d L) (.dma cc0_scratch5.sem) (none : HIx 1) (b0M.view.amount (SemLoc.dma cc0_scratch5.sem))
        iprop((b0M.view.loc (thr d L) ↦{fullShare} View.write (Elt F) b0M.view f w Finset.univ) ∗ (xM.view.loc (thr d L) ↦[S]{q0} vx))
      ∗ (xM.view.loc (thr d L) ↦[Finset.univ \ S]{q0} vx)) ⊢ coming (F := F) d L q0 vx n := by
  rw [show coming d L q0 vx n = _ from if_pos hn, show View.write (Elt F) b0M.view f w Finset.univ = w from View.write_whole_univ ..]
  iintro ⟨HF, Hr⟩
  iexists w, S
  isplitr
  · ipureintro; exact hw
  isplitl [HF] <;> iassumption

/-- A row of the sum just sent is on its way at the next trip. -/
theorem going_of {gt ft : S256x64x4096.Idx → Elt F .f32} (k : Fin k0_t2_loop.trips) (w g : S64x512.Idx → Elt F .f32) :
    iprop(Transfers.Flight (countersEmb (U := UU)) (thr d L) (.dma cc0_scratch10.sem) (none : HIx 1) (row[tM, k0_off106 L k, k0_off106_inb L k].view.amount (SemLoc.dma cc0_scratch10.sem))
        iprop((row[tM, k0_off106 L k, k0_off106_inb L k].view.loc (thr d L) ↦[row[tM, k0_off106 L k, k0_off106_inb L k].view.set]{fullShare}
            row[tM, k0_off106 L k, k0_off106_inb L k].view.writes (Elt F) ft [⟨Rect.whole S64x512, w⟩])
          ∗ (b1M.view.loc (thr d L) ↦[b1M.view.set]{fullShare} g))
      ∗ ⌜∀ y, w y = gt (rowAt (k0_off106 L k) (k0_off106_inb L k) y)⌝) ⊢ going (F := F) d L gt (k.val + 1) := by
  rw [show going d L gt (k.val + 1) = _ from if_neg (Nat.succ_ne_zero _)]
  iintro ⟨HF, %hw⟩
  iexists k, g
  isplitr
  · ipureintro; rfl
  have e : (b1M.view.loc (thr d L) ↦[b1M.view.set]{fullShare} g : sProp (MM F)) = (b1M.view.loc (thr d L) ↦{fullShare} g) := by rw [View.set_whole]
  iapply (Transfers.Flight_mono (countersEmb (U := UU)) (thr d L) (by
    rw [e]
    iintro ⟨H, Hb⟩
    isplitl [H]
    · iapply (landed d L row[tM, k0_off106 L k, k0_off106_inb L k].view ft gt w)
      isplitl [H]
      · iexact H
      · ipureintro; exact hw
    · iexact Hb)) $$ HF

/-- A wait recorded at the kernel's own level keeps the record within what it may be. -/
theorem waits_insert {W W' : Waits sig (HIx 1)} (sm : SemLoc sig) (h : ∀ p ∈ W', p ∈ W ∨ p.2 = none) : ∀ p ∈ insert (sm, (none : HIx 1)) W', p ∈ W ∨ p.2 = none := by
  intro p hp
  rcases Finset.mem_insert.mp hp with rfl | hp
  · exact Or.inr rfl
  · exact h p hp

/-- Where the first lane's sum is the sum, adding loop 3 leaves the sum. -/
theorem loop3u {α : Type} (v30 : BitVec 32) (v283 : BitVec 1) (a b : BitVec 32) (k2 : Fin k0_t2_loop.trips) (kk : BitVec 32 → Prog (TpuEff nD τ sig (Elt F) Λ₀ (thr d L).2) α) {Q : α → sProp (MM F)}
    (fx : Buf (Elt F) (b0M.view.loc (thr d L))) (ff : Buf (Elt F) (fbM.view.loc (thr d L))) (h : addG₀ fx ff = addG fx ff) :
    iprop((fbM.view.loc (thr d L) ↦{fullShare} ff) ∗ (b0M.view.loc (thr d L) ↦{fullShare} fx))
      ⊢ (iprop((∀ acc, iprop((fbM.view.loc (thr d L) ↦{fullShare} ff) ∗ (b0M.view.loc (thr d L) ↦{fullShare} addG fx ff))
            -∗ wp frame (wpE (defs₀ (F := F)) 𝒱₀ (thr d L) none) Set.univ (kk acc) Q)
          -∗ wp frame (wpE (defs₀ (F := F)) 𝒱₀ (thr d L) none) Set.univ (Scf.Loop.for k0_t3_loop k0_t3_ok 0#32 (body3 (F := F) L v30 v283 a b k2) >>= kk) Q) : sProp (MM F)) := by
  rw [← h]; exact loop3 d L v30 v283 a b k2 kk fx ff

/-- Where the first lane's sum is the sum, adding loop 5 leaves the sum. -/
theorem loop5u {α : Type} (v30 : BitVec 32) (v155 : IVec S16 32) (v156 : IVec S16 32) (v158 : BitVec 32) (v235 : BitVec 1) (v236 : IVec S1 32) (kk : BitVec 32 → Prog (TpuEff nD τ sig (Elt F) Λ₀ (thr d L).2) α) {Q : α → sProp (MM F)}
    (fx : Buf (Elt F) (b1M.view.loc (thr d L))) (ff : Buf (Elt F) (fbM.view.loc (thr d L))) (h : addG₀ fx ff = addG fx ff) :
    iprop((fbM.view.loc (thr d L) ↦{fullShare} ff) ∗ (b1M.view.loc (thr d L) ↦{fullShare} fx))
      ⊢ (iprop((∀ acc, iprop((fbM.view.loc (thr d L) ↦{fullShare} ff) ∗ (b1M.view.loc (thr d L) ↦{fullShare} addG fx ff))
            -∗ wp frame (wpE (defs₀ (F := F)) 𝒱₀ (thr d L) none) Set.univ (kk acc) Q)
          -∗ wp frame (wpE (defs₀ (F := F)) 𝒱₀ (thr d L) none) Set.univ (Scf.Loop.for k0_t5_loop k0_t5_ok 0#32 (body5 (F := F) L v30 v155 v156 v158 v235 v236) >>= kk) Q) : sProp (MM F)) := by
  rw [← h]; exact loop5 d L v30 v155 v156 v158 v235 v236 kk fx ff

set_option maxHeartbeats 16000000 in
/-- A trip: it finishes both rows of its pair in the copy and the even one in the sum, has the odd one of the pair before
    back, and leaves the next even row coming and its odd row going. -/
theorem trip2 (O : CellTallies nD τ sig (HIx 1)) (W : Waits sig (HIx 1)) (q0 q1 : PosShare TreeShare) (v30 : BitVec 32) (v155 : IVec S16 32) (v156 : IVec S16 32) (v158 : BitVec 32) (v235 : BitVec 1) (v236 : IVec S1 32) (v283 : BitVec 1)
   (vx fc ft gt : S256x64x4096.Idx → Elt F .f32) (ff : S64x512.Idx → Elt F .f32) (k : Fin k0_t2_loop.trips) (acc : BitVec 32)
   (hU : v283 = 1#1 → ∀ fx : S64x512.Idx → Elt F .f32, addG₀ fx ff = addG fx ff)
   (hT : ∀ (j : ℕ) (off : Fin 3 → ℕ) (h : ∀ a, off a + S1x64x512.size a ≤ S256x64x4096.size a), off = ![r0 L + j, 0, s0 L] →
      ∀ y, gt (rowAt off h y) = addG (fun y => vx (rowAt off h y)) ff y) :
   iprop(side d L O W q1 vx ff ∗ coming d L q0 vx k.val ∗ going d L gt k.val ∗ rowsA d L fc ft k ∗ rowsB d L ft k) ⊢
   (wp frame (wpE (defs₀ (F := F)) 𝒱₀ (thr d L) none) Set.univ (body2 L v30 v155 v156 v158 v235 v236 v283 k acc)
     fun _ => iprop(side d L O W q1 vx ff ∗ coming d L q0 vx (k.val + 1) ∗ going d L gt (k.val + 1) ∗ rowsA d L vx gt k ∗ cameBack d L gt k.val) : sProp (MM F)) := by
  have hv : v283 = 1#1 ∨ v283 = 0#1 := by clear hU; revert v283; decide
  have hk : k.val < 32 := k.isLt
  unfold side rowsA rowsB body2 k0_t2_body
  rw [k0_part44_eq_skeleton]; unfold k0_part44_skel
  rw [show coming d L q0 vx k.val = _ from if_pos hk]
  rcases hv with rfl | rfl <;> by_cases h1 : k0_cond1 k = 1#1 <;> by_cases h4 : k0_cond4 k = 1#1
  all_goals
    first
    | rw [show going d L gt k.val = _ from if_neg ((cond1_iff k).mp h1), show cameBack d L gt k.val = _ from if_neg ((cond1_iff k).mp h1)]
      unfold rowsB
      iintro ⟨⟨Hmw, Hf, Hx1, Hs6, Hs7, Hs8, Hs9, %W', %hW', HO⟩, ⟨%g0, %S, %hg0, HF0, Hxr⟩, ⟨%kp, %f1, %hkp, HF1⟩, ⟨Hca, Hcb, Hta⟩, Htb⟩
    | rw [show going d L gt k.val = _ from if_pos (not_not.mp fun h => h1 ((cond1_iff k).mpr h)), show cameBack d L gt k.val = _ from if_pos (not_not.mp fun h => h1 ((cond1_iff k).mpr h))]
      iintro ⟨⟨Hmw, Hf, Hx1, Hs6, Hs7, Hs8, Hs9, %W', %hW', HO⟩, ⟨%g0, %S, %hg0, HF0, Hxr⟩, ⟨⟨%f1, HF1_src⟩, HF1⟩, ⟨Hca, Hcb, Hta⟩, Htb⟩
    sl_exec
    rw [bind_assoc]
    first
    | iapply (loop3u d L (h := hU rfl _)) $$ [Hf HF0_dst]
      · isplitl [Hf] <;> iassumption
    | iapply (loop4 d L) $$ [Hf HF0_dst]
      · isplitl [Hf] <;> iassumption
    iintro %_ ⟨Hf, HF0_dst⟩
    sl_exec
    first
    | iapply (loop5u d L (h := hU rfl _)) $$ [Hf HF1_src]
      · isplitl [Hf] <;> iassumption
    | iapply (loop6 d L) $$ [Hf HF1_src]
      · isplitl [Hf] <;> iassumption
    iintro %_ ⟨Hf, HF1_src⟩
    sl_exec
    sl_step
    isplitl [Hmw Hf Hx1 Hs6 Hs7 Hs8 Hs9 HO]
    · isplitl [Hmw]; · iexact Hmw
      isplitl [Hf]; · iexact Hf
      isplitl [Hx1]; · iexact Hx1
      isplitl [Hs6]; · iexact Hs6
      isplitl [Hs7]; · iexact Hs7
      isplitl [Hs8]; · iexact Hs8
      isplitl [Hs9]; · iexact Hs9
      iexists _
      isplitr
      rotate_left
      · iexact HO
      · ipureintro; repeat (first | exact hW' | refine waits_insert _ ?_)
    first
    | isplitl [HF0 Hxr]
      · iapply (coming_of d L (by have := (cond4_iff k).mp h4; omega) _ _ _ fun off h e y => congrArg vx (rowAt_congr ((off107_eq L k h4).trans e.symm) _ _ y)) $$ [HF0 Hxr]
        isplitl [HF0]
        · iexact HF0
        · iexact Hxr
    | isplitl [HF0 Hxr HF0_dst]
      · rw [show coming d L q0 vx (k.val + 1) = _ from if_neg (by have := mt (cond4_iff k).mpr h4; omega)]
        isplitl [HF0_dst]
        · iexists _; iexact HF0_dst
        isplitl [HF0]
        · iexact HF0
        · iexact Hxr
    isplitl [HF1]
    · iapply (going_of d L k)
      isplitl [HF1]
      · iexact HF1
      · ipureintro
        exact fun y => (congrArg (FloatOps.addf · (ff y)) ((congrFun (write_b1 f1 _) y).trans (congrArg vx (rowAt_congr ((off39_eq L k).trans (off106_eq L k).symm) (k0_off39_inb L k) _ y)))).trans
          (hT (2 * k.val + 1) _ (k0_off106_inb L k) (off106_eq L k) y).symm
    isplitl [Hca Hcb Hta]
    · isplitl [Hca]
      · iapply (landed d L)
        isplitl [Hca]
        · iexact Hca
        · ipureintro; exact fun y => hg0 _ (k0_off40_inb L k) (off40_eq L k) y
      isplitl [Hcb]
      · iapply (landed d L)
        isplitl [Hcb]
        · iexact Hcb
        · ipureintro; exact fun y => (congrFun (write_b1 f1 _) y).trans (congrArg vx (rowAt_congr ((off39_eq L k).trans (off106_eq L k).symm) (k0_off39_inb L k) (k0_off106_inb L k) y))
      · iapply (landed d L)
        isplitl [Hta]
        · iexact Hta
        · ipureintro
          exact fun y => (congrArg (FloatOps.addf · (ff y)) (hg0 _ (k0_off105_inb L k) (off105_eq L k) y)).trans (hT (2 * k.val) _ _ (off105_eq L k) y).symm
    first
    | iexists kp
      isplitr
      · ipureintro; exact hkp
      · iexact HF1_dst
    | iempintro

end Cert.Proof.Slot

end
-- ==== Proof.Sweep.lean ====
/-
  The tile's pair loop: all sixty-four rows of its block, in the copy and in the sum.
-/
module

public import proofs.«01_k».proof.Proof.Pair

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

/-! ## Rows done and rows to do -/

/-- Those of the pairs before `n`. -/
def below (n : ℕ) (Ψ : Fin k0_t2_loop.trips → sProp (MM F)) : sProp (MM F) := bigSep (Finset.univ.filter fun p => p.val < n) Ψ
/-- Those of the pairs from `n` on. -/
def onward (n : ℕ) (Φ : Fin k0_t2_loop.trips → sProp (MM F)) : sProp (MM F) := bigSep (Finset.univ.filter fun p => n ≤ p.val) Φ

/-- Before the first trip nothing is done. -/
theorem below_zero (Ψ : Fin k0_t2_loop.trips → sProp (MM F)) : below 0 Ψ = iprop(emp) := by
  unfold below
  rw [Finset.filter_false_of_mem fun p _ => Nat.not_lt_zero _]; rfl
/-- After the last trip everything is done. -/
theorem below_all (Ψ : Fin k0_t2_loop.trips → sProp (MM F)) : below 32 Ψ = bigSep Finset.univ Ψ := by
  unfold below
  rw [Finset.filter_true_of_mem fun p _ => p.isLt]
/-- Before the first trip everything is ahead. -/
theorem onward_zero (Φ : Fin k0_t2_loop.trips → sProp (MM F)) : onward 0 Φ = bigSep Finset.univ Φ := by
  unfold onward
  rw [Finset.filter_true_of_mem fun p _ => Nat.zero_le _]
/-- A trip adds its part to what is done. -/
theorem below_succ (Ψ : Fin k0_t2_loop.trips → sProp (MM F)) (k : Fin k0_t2_loop.trips) : below (k.val + 1) Ψ = iprop(Ψ k ∗ below k.val Ψ) := by
  have e : (Finset.univ.filter fun p : Fin k0_t2_loop.trips => p.val < k.val + 1) = insert k (Finset.univ.filter fun p => p.val < k.val) := by
    ext p; simp only [Finset.mem_filter, Finset.mem_univ, true_and, Finset.mem_insert, Fin.ext_iff]; omega
  unfold below
  rw [e]; exact bigSep_insert (by simp)
/-- A trip takes its part from what is ahead. -/
theorem onward_split (Φ : Fin k0_t2_loop.trips → sProp (MM F)) (k : Fin k0_t2_loop.trips) : onward k.val Φ = iprop(Φ k ∗ onward (k.val + 1) Φ) := by
  have e : (Finset.univ.filter fun p : Fin k0_t2_loop.trips => k.val ≤ p.val) = insert k (Finset.univ.filter fun p => k.val + 1 ≤ p.val) := by
    ext p; simp only [Finset.mem_filter, Finset.mem_univ, true_and, Finset.mem_insert, Fin.ext_iff]; omega
  unfold onward
  rw [e]; exact bigSep_insert (by simp)

/-! ## The loop -/

/-- What holds before trip `n`. -/
def sweep (O : CellTallies nD τ sig (HIx 1)) (W : Waits sig (HIx 1)) (q0 q1 : PosShare TreeShare) (vx fc ft gt : S256x64x4096.Idx → Elt F .f32) (ff : S64x512.Idx → Elt F .f32)
    (n : ℕ) : sProp (MM F) :=
  iprop(side d L O W q1 vx ff ∗ coming d L q0 vx n ∗ going d L gt n ∗ (below n (rowsA d L vx gt) ∗ onward n (rowsA d L fc ft))
    ∗ (below (n - 1) (rowsB d L gt) ∗ onward n (rowsB d L ft)))

/-- What comes back of the odd rows joins those done. -/
theorem cameBack_join (gt : S256x64x4096.Idx → Elt F .f32) (k : Fin k0_t2_loop.trips) :
    iprop(cameBack (F := F) d L gt k.val ∗ below (k.val - 1) (rowsB d L gt)) ⊢ below (k.val + 1 - 1) (rowsB d L gt) := by
  by_cases h : k.val = 0
  · rw [show cameBack (F := F) d L gt k.val = _ from if_pos h, h]
    iintro ⟨-, H⟩; iexact H
  · rw [show cameBack (F := F) d L gt k.val = _ from if_neg h]
    iintro ⟨⟨%kp, %hkp, H⟩, Hb⟩
    have e : below (k.val + 1 - 1) (rowsB (F := F) d L gt) = iprop(rowsB d L gt kp ∗ below (k.val - 1) (rowsB d L gt)) := by
      rw [show k.val + 1 - 1 = kp.val + 1 by omega, below_succ, show kp.val = k.val - 1 by omega]
    iapply (Entails.of_eq e.symm)
    isplitl [H] <;> iassumption

theorem sweep_step (O : CellTallies nD τ sig (HIx 1)) (W : Waits sig (HIx 1)) (q0 q1 : PosShare TreeShare) (v30 : BitVec 32) (v155 : IVec S16 32) (v156 : IVec S16 32) (v158 : BitVec 32) (v235 : BitVec 1) (v236 : IVec S1 32) (v283 : BitVec 1)
    (vx fc ft gt : S256x64x4096.Idx → Elt F .f32) (ff : S64x512.Idx → Elt F .f32) (k : Fin k0_t2_loop.trips) (acc : BitVec 32)
    (hU : v283 = 1#1 → ∀ fx : S64x512.Idx → Elt F .f32, addG₀ fx ff = addG fx ff)
    (hT : ∀ (j : ℕ) (off : Fin 3 → ℕ) (h : ∀ a, off a + S1x64x512.size a ≤ S256x64x4096.size a), off = ![r0 L + j, 0, s0 L] →
      ∀ y, gt (rowAt off h y) = addG (fun y => vx (rowAt off h y)) ff y) :
    sweep d L O W q0 q1 vx fc ft gt ff k.val ⊢
      (wp frame (wpE (defs₀ (F := F)) 𝒱₀ (thr d L) none) Set.univ (body2 L v30 v155 v156 v158 v235 v236 v283 k acc)
        fun _ => sweep d L O W q0 q1 vx fc ft gt ff (k.val + 1) : sProp (MM F)) := by
  unfold sweep
  rw [onward_split (rowsA d L fc ft) k, onward_split (rowsB d L ft) k, below_succ (rowsA d L vx gt) k]
  iintro ⟨Hs, Hc, Hg, ⟨Had, ⟨Ha, Hao⟩⟩, ⟨Hbd, ⟨Hb, Hbo⟩⟩⟩
  iapply ((trip2 d L O W q0 q1 v30 v155 v156 v158 v235 v236 v283 vx fc ft gt ff k acc hU hT).trans (wp_wand frame (wpE (defs₀ (F := F)) 𝒱₀ (thr d L) none) Set.univ)) $$ [Hs Hc Hg Ha Hb]
  · isplitl [Hs]; · iexact Hs
    isplitl [Hc]; · iexact Hc
    isplitl [Hg]; · iexact Hg
    isplitl [Ha] <;> iassumption
  iintro %_ ⟨Hs, Hc, Hg, Ha, Hcb⟩
  isplitl [Hs]; · iexact Hs
  isplitl [Hc]; · iexact Hc
  isplitl [Hg]; · iexact Hg
  isplitl [Had Ha Hao]
  · isplitl [Had Ha]
    · isplitl [Ha] <;> iassumption
    · iexact Hao
  isplitl [Hcb Hbd]
  · iapply (cameBack_join d L gt k)
    isplitl [Hcb] <;> iassumption
  · iexact Hbo

/-- The whole loop. -/
theorem loop2 {α : Type} (O : CellTallies nD τ sig (HIx 1)) (W : Waits sig (HIx 1)) (q0 q1 : PosShare TreeShare) (v30 : BitVec 32) (v155 : IVec S16 32) (v156 : IVec S16 32) (v158 : BitVec 32) (v235 : BitVec 1) (v236 : IVec S1 32) (v283 : BitVec 1)
    (kk : BitVec 32 → Prog (TpuEff nD τ sig (Elt F) Λ₀ (thr d L).2) α) {Q : α → sProp (MM F)}
    (vx fc ft gt : S256x64x4096.Idx → Elt F .f32) (ff : S64x512.Idx → Elt F .f32)
    (hU : v283 = 1#1 → ∀ fx : S64x512.Idx → Elt F .f32, addG₀ fx ff = addG fx ff)
    (hT : ∀ (j : ℕ) (off : Fin 3 → ℕ) (h : ∀ a, off a + S1x64x512.size a ≤ S256x64x4096.size a), off = ![r0 L + j, 0, s0 L] →
      ∀ y, gt (rowAt off h y) = addG (fun y => vx (rowAt off h y)) ff y) :
    sweep d L O W q0 q1 vx fc ft gt ff 0
      ⊢ (iprop((∀ acc, sweep d L O W q0 q1 vx fc ft gt ff 32 -∗ wp frame (wpE (defs₀ (F := F)) 𝒱₀ (thr d L) none) Set.univ (kk acc) Q)
          -∗ wp frame (wpE (defs₀ (F := F)) 𝒱₀ (thr d L) none) Set.univ (Scf.Loop.for k0_t2_loop k0_t2_ok 0#32 (body2 (F := F) L v30 v155 v156 v158 v235 v236 v283) >>= kk) Q) : sProp (MM F)) :=
  Scf.wp_for_bind frame (wpE (defs₀ (F := F)) 𝒱₀ (thr d L) none) Set.univ k0_t2_loop.lb k0_t2_loop.ub k0_t2_loop.st k0_t2_ok 0#32 (body2 (F := F) L v30 v155 v156 v158 v235 v236 v283)
    (fun n _ => sweep d L O W q0 q1 vx fc ft gt ff n)
    (fun k acc => sweep_step d L O W q0 q1 v30 v155 v156 v158 v235 v236 v283 vx fc ft gt ff k acc hU hT) (kk := kk) (Q := Q)

/-- Before the loop: nothing done. -/
theorem sweep_zero (O : CellTallies nD τ sig (HIx 1)) (W : Waits sig (HIx 1)) (q0 q1 : PosShare TreeShare) (vx fc ft gt : S256x64x4096.Idx → Elt F .f32) (ff : S64x512.Idx → Elt F .f32) :
    iprop(side d L O W q1 vx ff ∗ coming d L q0 vx 0 ∗ going d L gt 0 ∗ bigSep Finset.univ (rowsA d L fc ft) ∗ bigSep Finset.univ (rowsB d L ft))
      ⊢ sweep (F := F) d L O W q0 q1 vx fc ft gt ff 0 := by
  unfold sweep
  rw [below_zero, below_zero, onward_zero, onward_zero]
  iintro ⟨Hs, Hc, Hg, Ha, Hb⟩
  isplitl [Hs]; · iexact Hs
  isplitl [Hc]; · iexact Hc
  isplitl [Hg]; · iexact Hg
  isplitl [Ha]
  · isplitr
    · iempintro
    · iexact Ha
  · isplitr
    · iempintro
    · iexact Hb

end Cert.Proof.Slot

end
-- ==== Proof.Tests.lean ====
/-
  The parts of a tile's body that read the block's types, and what the tests between them conclude.
-/
module

public import proofs.«01_k».proof.Proof.Sweep

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

/-- One more group loaded. -/
theorem Bounds.load {fi : S512.Idx → BitVec 32} {n : ℕ} {mn mx : IVec S16 32} (hb : Bounds fi n mn mx) {off : Fin 1 → ℕ}
    {inb : ∀ a, off a + S16.size a ≤ S512.size a} {c : S16.ShapeCasts S16} (hn : n < 32) (hoff : off = ![16 * n]) :
    Bounds fi (n + 1)
      (minsi mn (shapeCast S16 (View.readAt (Elt F) (View.whole cc0_scratch0) (Rect.unit (s := S512) off S16.size inb).toLoadRect fi) c))
      (maxsi mx (shapeCast S16 (View.readAt (Elt F) (View.whole cc0_scratch0) (Rect.unit (s := S512) off S16.size inb).toLoadRect fi) c)) :=
  hb.next (isGroup_read (F := F) (View.whole cc0_scratch0) fi hn inb hoff c)

set_option maxHeartbeats 4000000 in
/-- Groups 1 to 12: the running minimum and maximum cover thirteen groups. -/
theorem part46_wp (fi : S512.Idx → BitVec 32) (mn : IVec S16 32) (h : Bounds fi 1 mn mn) :
    (idsM.view.loc (thr d L) ↦{fullShare} (fi : idsM.view.ty.Contents (Elt F)) : sProp (MM F))
    ⊢ wp frame (wpE (defs₀ (F := F)) 𝒱₀ (thr d L) none) Set.univ
        (k0_part46 (F := F) L xM (Memref.isWhole_whole _) eM (Memref.isWhole_whole _) iM (Memref.isWhole_whole _) cM (Memref.isWhole_whole _) tM (Memref.isWhole_whole _)
          idsM (Memref.isWhole_whole _) embM (Memref.isWhole_whole _) fbM (Memref.isWhole_whole _) b0M (Memref.isWhole_whole _) b1M (Memref.isWhole_whole _)
          cc0_scratch5 cc0_scratch6 cc0_scratch7 cc0_scratch8 cc0_scratch9 cc0_scratch10 cc0_scoped0 cc0_scoped1 mn)
        fun p => iprop((idsM.view.loc (thr d L) ↦{fullShare} (fi : idsM.view.ty.Contents (Elt F))) ∗ ⌜Bounds fi 13 p.1 p.2⌝) := by
  rw [k0_part46_eq_skeleton]; unfold k0_part46_skel
  iintro Hids
  sl_exec
  sl_step
  isplitl [Hids]; · iexact Hids
  ipureintro
  dsimp only [k0_pay207, k0_pay208, k0_pay209, k0_pay210, k0_pay211, k0_pay212, k0_pay213, k0_pay214, k0_pay215, k0_pay216, k0_pay217, k0_pay218, k0_pay219, k0_pay220]
  iterate 12 refine Bounds.load (F := F) ?_ (by decide) rfl
  exact h

set_option maxHeartbeats 4000000 in
/-- Groups 13 to 24. -/
theorem part47_wp (fi : S512.Idx → BitVec 32) (mn mx : IVec S16 32) (h : Bounds fi 13 mn mx) :
    (idsM.view.loc (thr d L) ↦{fullShare} (fi : idsM.view.ty.Contents (Elt F)) : sProp (MM F))
    ⊢ wp frame (wpE (defs₀ (F := F)) 𝒱₀ (thr d L) none) Set.univ
        (k0_part47 (F := F) L xM (Memref.isWhole_whole _) eM (Memref.isWhole_whole _) iM (Memref.isWhole_whole _) cM (Memref.isWhole_whole _) tM (Memref.isWhole_whole _)
          idsM (Memref.isWhole_whole _) embM (Memref.isWhole_whole _) fbM (Memref.isWhole_whole _) b0M (Memref.isWhole_whole _) b1M (Memref.isWhole_whole _)
          cc0_scratch5 cc0_scratch6 cc0_scratch7 cc0_scratch8 cc0_scratch9 cc0_scratch10 cc0_scoped0 cc0_scoped1 mn mx)
        fun p => iprop((idsM.view.loc (thr d L) ↦{fullShare} (fi : idsM.view.ty.Contents (Elt F))) ∗ ⌜Bounds fi 25 p.1 p.2⌝) := by
  rw [k0_part47_eq_skeleton]; unfold k0_part47_skel
  iintro Hids
  sl_exec
  sl_step
  isplitl [Hids]; · iexact Hids
  ipureintro
  dsimp only [k0_pay221, k0_pay222, k0_pay223, k0_pay224, k0_pay225, k0_pay226, k0_pay227, k0_pay228, k0_pay229, k0_pay230, k0_pay231, k0_pay232, k0_pay233, k0_pay234]
  iterate 12 refine Bounds.load (F := F) ?_ (by decide) rfl
  exact h

set_option maxHeartbeats 4000000 in
/-- Groups 25 to 31, and the tests of the first lanes. -/
theorem part48_wp (fi : S512.Idx → BitVec 32) (mn mx : IVec S16 32) (h : Bounds fi 25 mn mx) :
    (idsM.view.loc (thr d L) ↦{fullShare} (fi : idsM.view.ty.Contents (Elt F)) : sProp (MM F))
    ⊢ wp frame (wpE (defs₀ (F := F)) 𝒱₀ (thr d L) none) Set.univ
        (k0_part48 (F := F) L xM (Memref.isWhole_whole _) eM (Memref.isWhole_whole _) iM (Memref.isWhole_whole _) cM (Memref.isWhole_whole _) tM (Memref.isWhole_whole _)
          idsM (Memref.isWhole_whole _) embM (Memref.isWhole_whole _) fbM (Memref.isWhole_whole _) b0M (Memref.isWhole_whole _) b1M (Memref.isWhole_whole _)
          cc0_scratch5 cc0_scratch6 cc0_scratch7 cc0_scratch8 cc0_scratch9 cc0_scratch10 cc0_scoped0 cc0_scoped1 mn mx)
        fun p => iprop((idsM.view.loc (thr d L) ↦{fullShare} (fi : idsM.view.ty.Contents (Elt F)))
          ∗ ⌜∃ mn mx, p = ⟨mn, mx, lane mn 0, agreeTo mn mx 2, Scalar.cmpi .eq (lane mn 3) (lane mn 0), extractStridedSlice S1 ![3] mx slices_S16_o3_S1⟩ ∧ Bounds fi 32 mn mx⌝) := by
  rw [k0_part48_eq_skeleton]; unfold k0_part48_skel
  iintro Hids
  sl_exec
  sl_step
  isplitl [Hids]; · iexact Hids
  ipureintro
  refine ⟨_, _, rfl, ?_⟩
  dsimp only [k0_pay235, k0_pay236, k0_pay237, k0_pay238, k0_pay239, k0_pay240, k0_pay241, k0_pay242, k0_pay243]
  iterate 7 refine Bounds.load (F := F) ?_ (by decide) rfl
  exact h

set_option maxHeartbeats 4000000 in
/-- The pattern's loop, and the tests of lanes up to the ninth. -/
theorem part49_wp (mn mx : IVec S16 32)
    (fi : Buf (Elt F) (idsM.view.loc (thr d L))) (fe : Buf (Elt F) (embM.view.loc (thr d L))) (f : Buf (Elt F) (fbM.view.loc (thr d L))) :
    iprop((idsM.view.loc (thr d L) ↦{fullShare} fi) ∗ (embM.view.loc (thr d L) ↦{fullShare} fe) ∗ (fbM.view.loc (thr d L) ↦{fullShare} f))
    ⊢ (wp frame (wpE (defs₀ (F := F)) 𝒱₀ (thr d L) none) Set.univ
        (k0_part49 (F := F) L xM (Memref.isWhole_whole _) eM (Memref.isWhole_whole _) iM (Memref.isWhole_whole _) cM (Memref.isWhole_whole _) tM (Memref.isWhole_whole _)
          idsM (Memref.isWhole_whole _) embM (Memref.isWhole_whole _) fbM (Memref.isWhole_whole _) b0M (Memref.isWhole_whole _) b1M (Memref.isWhole_whole _)
          cc0_scratch5 cc0_scratch6 cc0_scratch7 cc0_scratch8 cc0_scratch9 cc0_scratch10 cc0_scoped0 cc0_scoped1 mn mx (lane mn 0) (agreeTo mn mx 2) (Scalar.cmpi .eq (lane mn 3) (lane mn 0)) (extractStridedSlice S1 ![3] mx slices_S16_o3_S1))
        fun p => iprop((idsM.view.loc (thr d L) ↦{fullShare} fi) ∗ (embM.view.loc (thr d L) ↦{fullShare} fe) ∗ (fbM.view.loc (thr d L) ↦{fullShare} fbv (F := F) fi fe)
          ∗ ⌜p = ⟨agreeTo mn mx 9, extractStridedSlice S1 ![10] mn slices_S16_o10_S1⟩⌝) : sProp (MM F)) := by
  rw [k0_part49_eq_skeleton]; unfold k0_part49_skel
  iintro ⟨Hids, Hemb, Hf⟩
  sl_exec
  iapply (loop1 (F := F) d L _ _ _ _ _ _ _ fi fe f) $$ [Hids Hemb Hf]
  · isplitl [Hids]; · iexact Hids
    isplitl [Hemb]; · iexact Hemb
    iexact Hf
  iintro %acc ⟨Hids, Hemb, Hf⟩
  sl_exec
  sl_step
  isplitl [Hids]; · iexact Hids
  isplitl [Hemb]; · iexact Hemb
  isplitl [Hf]; · iexact Hf
  ipureintro
  rfl

end Cert.Proof.Slot

end
-- ==== Proof.Tile.lean ====
/-
  A tile's whole run: from its shares of the inputs and its rows of the outputs, the rows hold the copy and the sum.
-/
module

public import proofs.«01_k».proof.Proof.Tests

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

local notation "row[" m ", " off ", " h "]" =>
  Memref.squeeze (Memref.slice m (Rect.unit (s := S256x64x4096) off S1x64x512.size h) (fun _ => rfl)) S64x512 squeezes_S1x64x512_S64x512

/-- The block's types arrived. -/
theorem ids_landed (vi : S4096.Idx → Elt F .i32) (f : S512.Idx → Elt F .i32) :
    View.write (Elt F) idsM.view f
      ((Memref.slice iM (Rect.unit (s := S4096) (k0_off1 L) S512.size (k0_off1_inb L)) (fun _ => rfl)).view.read (Elt F) vi) Finset.univ = blockIds L vi := by
  refine (View.write_whole_univ ..).trans (funext fun y => congrArg vi (funext fun a => ?_))
  match a with
  | 0 =>
    apply Fin.ext
    show k0_off1 L 0 + 1 * (y 0).val = s0 L + (y 0).val
    rw [off1_eq]; show s0 L + 1 * (y 0).val = _; omega

/-- The buffer of the types after the fetch. -/
theorem ids_hold (vi : S4096.Idx → Elt F .i32) (f w : S512.Idx → Elt F .i32) :
    iprop((idsM.view.loc (thr d L) ↦{fullShare} View.write (Elt F) idsM.view f w Finset.univ)
      ∗ ⌜w = (Memref.slice iM (Rect.unit (s := S4096) (k0_off1 L) S512.size (k0_off1_inb L)) (fun _ => rfl)).view.read (Elt F) vi⌝)
    ⊢ (idsM.view.loc (thr d L) ↦{fullShare} (blockIds L vi : S512.Idx → Elt F .i32) : sProp (MM F)) := by
  iintro ⟨H, %e⟩
  subst e
  iapply (Entails.of_eq (congrArg (fun g => (idsM.view.loc (thr d L) ↦{fullShare} g : sProp (MM F))) (ids_landed L vi f))) $$ H

/-- The buffer of the table after the fetch. -/
theorem emb_hold (ve f w : S64x48.Idx → Elt F .f32) :
    iprop((embM.view.loc (thr d L) ↦{fullShare} View.write (Elt F) embM.view f w Finset.univ) ∗ ⌜w = ve⌝)
    ⊢ (embM.view.loc (thr d L) ↦{fullShare} ve : sProp (MM F)) := by
  iintro ⟨H, %e⟩
  subst e
  iapply (Entails.of_eq (congrArg (fun g => (embM.view.loc (thr d L) ↦{fullShare} g : sProp (MM F))) (View.write_whole_univ ..))) $$ H

set_option maxHeartbeats 4000000 in
/-- The tile fetches its block of the types and the table, and reads the first group. -/
theorem part45_wp (O : CellTallies nD τ sig (HIx 1)) (W : Waits sig (HIx 1)) (qe qi : PosShare TreeShare)
    (ve : S64x48.Idx → Elt F .f32) (vi : S4096.Idx → Elt F .i32) (f0 : Buf (Elt F) (idsM.view.loc (thr d L))) (f1 : Buf (Elt F) (embM.view.loc (thr d L))) :
    iprop(Transfers.MayWaits (thr d L) (none : HIx 1) O
      ∗ (eM.view.loc (thr d L) ↦{qe} ve) ∗ (iM.view.loc (thr d L) ↦{qi} vi)
      ∗ (idsM.view.loc (thr d L) ↦{fullShare} f0) ∗ (embM.view.loc (thr d L) ↦{fullShare} f1)
      ∗ semVal (thr d L, SemLoc.dma cc0_scoped0.sem) 0 ∗ semVal (thr d L, SemLoc.dma cc0_scoped1.sem) 0 ∗ owes (thr d L) O W)
    ⊢ (wp frame (wpE (defs₀ (F := F)) 𝒱₀ (thr d L) none) Set.univ
        (k0_part45 (F := F) L xM (Memref.isWhole_whole _) eM (Memref.isWhole_whole _) iM (Memref.isWhole_whole _) cM (Memref.isWhole_whole _) tM (Memref.isWhole_whole _)
          idsM (Memref.isWhole_whole _) embM (Memref.isWhole_whole _) fbM (Memref.isWhole_whole _) b0M (Memref.isWhole_whole _) b1M (Memref.isWhole_whole _)
          cc0_scratch5 cc0_scratch6 cc0_scratch7 cc0_scratch8 cc0_scratch9 cc0_scratch10 cc0_scoped0 cc0_scoped1)
        fun p => iprop((eM.view.loc (thr d L) ↦{qe} ve) ∗ (iM.view.loc (thr d L) ↦{qi} vi)
          ∗ (idsM.view.loc (thr d L) ↦{fullShare} (blockIds L vi : S512.Idx → Elt F .i32)) ∗ (embM.view.loc (thr d L) ↦{fullShare} ve)
          ∗ semVal (thr d L, SemLoc.dma cc0_scoped0.sem) 0 ∗ semVal (thr d L, SemLoc.dma cc0_scoped1.sem) 0
          ∗ (∃ W', ⌜∀ p ∈ W', p ∈ W ∨ p.2 = none⌝ ∗ owes (thr d L) O W') ∗ ⌜Bounds (blockIds L vi) 1 p.2 p.2⌝) : sProp (MM F)) := by
  rw [k0_part45_eq_skeleton]; unfold k0_part45_skel
  iintro ⟨Hmw, He, Hi, Hids, Hemb, Hsc0, Hsc1, HO⟩
  sl_exec
  sl_step
  isplitl [He]; · iexact He
  isplitl [Hi]; · iexact Hi
  isplitl [Hids]
  · iapply (ids_hold d L vi)
    isplitl [Hids]; · iexact Hids
    ipureintro; rfl
  isplitl [Hemb]
  · iapply (emb_hold d L ve)
    isplitl [Hemb]; · iexact Hemb
    ipureintro; rfl
  isplitl [Hsc0]; · iexact Hsc0
  isplitl [Hsc1]; · iexact Hsc1
  isplitl [HO]
  · iexists _
    isplitr
    rotate_left
    · iexact HO
    · ipureintro
      repeat (first | exact fun p hp => Or.inl hp | refine waits_insert _ ?_)
  ipureintro
  exact Bounds.one (by
    have h := isGroup_read (F := F) (View.whole cc0_scratch0) (blockIds L vi : S512.Idx → Elt F .i32) (g := 0) (by decide) inb_S512_S16_0 rfl shapeCasts_S16_S16
    rw [← ids_landed L vi f0] at h
    rw [← ids_landed L vi f0]
    exact h)

set_option maxHeartbeats 4000000 in
/-- The tests of the last lanes, the first fetch, and the sweep over the rows. -/
theorem part50_wp (O : CellTallies nD τ sig (HIx 1)) (W W₀ : Waits sig (HIx 1)) (hW : ∀ p ∈ W, p ∈ W₀ ∨ p.2 = none) (q0 q1 : PosShare TreeShare) (v30 : BitVec 32) (mn mx : IVec S16 32)
    (vx fc ft : S256x64x4096.Idx → Elt F .f32) (ve : S64x48.Idx → Elt F .f32) (vi : S4096.Idx → Elt F .i32) (hb : Bounds (blockIds L vi) 32 mn mx)
    (f3 : Buf (Elt F) (b0M.view.loc (thr d L))) (f4 : Buf (Elt F) (b1M.view.loc (thr d L))) :
    iprop(Transfers.MayWaits (thr d L) (none : HIx 1) O ∗ (xM.view.loc (thr d L) ↦{q0} vx) ∗ (xM.view.loc (thr d L) ↦{q1} vx)
      ∗ bigSep Finset.univ (rowsA d L fc ft) ∗ bigSep Finset.univ (rowsB d L ft)
      ∗ (fbM.view.loc (thr d L) ↦{fullShare} fbv (F := F) (blockIds L vi) ve)
      ∗ (b0M.view.loc (thr d L) ↦{fullShare} f3) ∗ (b1M.view.loc (thr d L) ↦{fullShare} f4)
      ∗ semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ owes (thr d L) O W)
    ⊢ (wp frame (wpE (defs₀ (F := F)) 𝒱₀ (thr d L) none) Set.univ
        (k0_part50 (F := F) L xM (Memref.isWhole_whole _) eM (Memref.isWhole_whole _) iM (Memref.isWhole_whole _) cM (Memref.isWhole_whole _) tM (Memref.isWhole_whole _)
          idsM (Memref.isWhole_whole _) embM (Memref.isWhole_whole _) fbM (Memref.isWhole_whole _) b0M (Memref.isWhole_whole _) b1M (Memref.isWhole_whole _)
          cc0_scratch5 cc0_scratch6 cc0_scratch7 cc0_scratch8 cc0_scratch9 cc0_scratch10 cc0_scoped0 cc0_scoped1 v30 mn mx (lane mn 0) (agreeTo mn mx 9) (extractStridedSlice S1 ![10] mn slices_S16_o10_S1))
        fun _ => sweep d L O W₀ q0 q1 vx fc ft (tyV vx ve vi) (fbv (F := F) (blockIds L vi) ve) 32 : sProp (MM F)) := by
  rw [k0_part50_eq_skeleton]; unfold k0_part50_skel
  iintro ⟨Hmw, Hx0, Hx1, HA, HB, Hf, Hb0, Hb1, Hs5, Hs6, Hs7, Hs8, Hs9, Hs10, HO⟩
  sl_exec
  iapply (loop2 (F := F) d L O W₀ q0 q1 _ _ _ _ _ _ (agreeTo mn mx 15) _ vx fc ft (tyV vx ve vi) (fbv (F := F) (blockIds L vi) ve)
    (fun h fx => addG₀_uniform (uniform_of hb h) ve fx)
    (fun j off h e y => tyV_rowAt L vx ve vi off h e y)) $$ [Hmw Hx0 Hx1 HA HB Hf Hb1 Hs5 Hs6 Hs7 Hs8 Hs9 Hs10 HO]
  · iapply (sweep_zero (F := F) d L O W₀ q0 q1 vx fc ft (tyV vx ve vi) (fbv (F := F) (blockIds L vi) ve))
    isplitl [Hmw Hf Hx1 Hs6 Hs7 Hs8 Hs9 HO]
    · unfold side
      isplitl [Hmw]; · iexact Hmw
      isplitl [Hf]; · iexact Hf
      isplitl [Hx1]; · iexact Hx1
      isplitl [Hs6]; · iexact Hs6
      isplitl [Hs7]; · iexact Hs7
      isplitl [Hs8]; · iexact Hs8
      isplitl [Hs9]; · iexact Hs9
      iexists W
      isplitr
      · ipureintro; exact hW
      iexact HO
    isplitl [Hs5 Hx0]
    · iapply (coming_of d L (n := 0) (by decide) _ _ _ fun off h e y => congrArg vx (rowAt_congr ((off37_eq L).trans e.symm) _ _ y))
      isplitl [Hs5]; · iexact Hs5
      iexact Hx0
    isplitl [Hb1 Hs10]
    · rw [show going d L (tyV vx ve vi) 0 = _ from if_pos rfl]
      isplitl [Hb1]; · iexists f4; iexact Hb1
      iexact Hs10
    isplitl [HA]; · iexact HA
    iexact HB
  iintro %_ H
  sl_exec
  sl_step
  iexact H

set_option maxHeartbeats 4000000 in
/-- The tile's whole run. -/
theorem tile_run (O : CellTallies nD τ sig (HIx 1)) (W : Waits sig (HIx 1)) (q0 q1 qe qi : PosShare TreeShare)
    (vx fc ft : S256x64x4096.Idx → Elt F .f32) (ve : S64x48.Idx → Elt F .f32) (vi : S4096.Idx → Elt F .i32) :
    iprop(Transfers.MayWaits (thr d L) (none : HIx 1) O ∗ (xM.view.loc (thr d L) ↦{q0} vx) ∗ (xM.view.loc (thr d L) ↦{q1} vx)
      ∗ (eM.view.loc (thr d L) ↦{qe} ve) ∗ (iM.view.loc (thr d L) ↦{qi} vi)
      ∗ bigSep Finset.univ (rowsA d L fc ft) ∗ bigSep Finset.univ (rowsB d L ft)
      ∗ (∃ f, idsM.view.loc (thr d L) ↦{fullShare} f) ∗ (∃ f, embM.view.loc (thr d L) ↦{fullShare} f) ∗ (∃ f, fbM.view.loc (thr d L) ↦{fullShare} f)
      ∗ (∃ f, b0M.view.loc (thr d L) ↦{fullShare} f) ∗ (∃ f, b1M.view.loc (thr d L) ↦{fullShare} f)
      ∗ semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scoped0.sem) 0 ∗ semVal (thr d L, SemLoc.dma cc0_scoped1.sem) 0 ∗ owes (thr d L) O W)
    ⊢ (wp frame (wpE (defs₀ (F := F)) 𝒱₀ (thr d L) none) Set.univ
        (cc0__sc_body (F := F) L xM (Memref.isWhole_whole _) eM (Memref.isWhole_whole _) iM (Memref.isWhole_whole _) cM (Memref.isWhole_whole _) tM (Memref.isWhole_whole _)
          idsM (Memref.isWhole_whole _) embM (Memref.isWhole_whole _) fbM (Memref.isWhole_whole _) b0M (Memref.isWhole_whole _) b1M (Memref.isWhole_whole _)
          cc0_scratch5 cc0_scratch6 cc0_scratch7 cc0_scratch8 cc0_scratch9 cc0_scratch10 cc0_scoped0 cc0_scoped1)
        fun _ => iprop((xM.view.loc (thr d L) ↦{q0} vx) ∗ (xM.view.loc (thr d L) ↦{q1} vx)
          ∗ (eM.view.loc (thr d L) ↦{qe} ve) ∗ (iM.view.loc (thr d L) ↦{qi} vi)
          ∗ bigSep Finset.univ (rowsA d L vx (tyV vx ve vi)) ∗ bigSep Finset.univ (rowsB d L (tyV vx ve vi))
          ∗ (∃ f, idsM.view.loc (thr d L) ↦{fullShare} f) ∗ (∃ f, embM.view.loc (thr d L) ↦{fullShare} f) ∗ (∃ f, fbM.view.loc (thr d L) ↦{fullShare} f)
      ∗ (∃ f, b0M.view.loc (thr d L) ↦{fullShare} f) ∗ (∃ f, b1M.view.loc (thr d L) ↦{fullShare} f)
          ∗ semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scoped0.sem) 0 ∗ semVal (thr d L, SemLoc.dma cc0_scoped1.sem) 0
          ∗ (∃ W', ⌜∀ p ∈ W', p ∈ W ∨ p.2 = none⌝ ∗ owes (thr d L) O W')) : sProp (MM F)) := by
  rw [cc0__sc_body_eq_skeleton]; unfold cc0__sc_body_skel
  iintro ⟨#Hmw, Hx0, Hx1, He, Hi, HA, HB, ⟨%f0, Hids⟩, ⟨%f1, Hemb⟩, ⟨%f2, Hf⟩, ⟨%f3, Hb0⟩, ⟨%f4, Hb1⟩, Hs5, Hs6, Hs7, Hs8, Hs9, Hs10, Hsc0, Hsc1, HO⟩
  iapply (Entails.of_eq (wp_bind frame (wpE (defs₀ (F := F)) 𝒱₀ (thr d L) none) Set.univ _ _ _).symm)
  iapply ((part45_wp d L O W qe qi ve vi f0 f1).trans (wp_wand frame (wpE (defs₀ (F := F)) 𝒱₀ (thr d L) none) Set.univ)) $$ [He Hi Hids Hemb Hsc0 Hsc1 HO]
  · isplitr; · iexact Hmw
    isplitl [He]; · iexact He
    isplitl [Hi]; · iexact Hi
    isplitl [Hids]; · iexact Hids
    isplitl [Hemb]; · iexact Hemb
    isplitl [Hsc0]; · iexact Hsc0
    isplitl [Hsc1]; · iexact Hsc1
    iexact HO
  iintro %p ⟨He, Hi, Hids, Hemb, Hsc0, Hsc1, ⟨%W1, %hW1, HO⟩, %hb⟩
  obtain ⟨v30, v32⟩ := p
  iapply (Entails.of_eq (wp_bind frame (wpE (defs₀ (F := F)) 𝒱₀ (thr d L) none) Set.univ _ _ _).symm)
  iapply ((part46_wp d L (blockIds L vi) v32 hb).trans (wp_wand frame (wpE (defs₀ (F := F)) 𝒱₀ (thr d L) none) Set.univ)) $$ [Hids]
  · iexact Hids
  iintro %p ⟨Hids, %hb⟩
  obtain ⟨v79, v80⟩ := p
  iapply (Entails.of_eq (wp_bind frame (wpE (defs₀ (F := F)) 𝒱₀ (thr d L) none) Set.univ _ _ _).symm)
  iapply ((part47_wp d L (blockIds L vi) v79 v80 hb).trans (wp_wand frame (wpE (defs₀ (F := F)) 𝒱₀ (thr d L) none) Set.univ)) $$ [Hids]
  · iexact Hids
  iintro %p ⟨Hids, %hb⟩
  obtain ⟨v127, v128⟩ := p
  iapply (Entails.of_eq (wp_bind frame (wpE (defs₀ (F := F)) 𝒱₀ (thr d L) none) Set.univ _ _ _).symm)
  iapply ((part48_wp d L (blockIds L vi) v127 v128 hb).trans (wp_wand frame (wpE (defs₀ (F := F)) 𝒱₀ (thr d L) none) Set.univ)) $$ [Hids]
  · iexact Hids
  iintro %p ⟨Hids, %hp⟩
  obtain ⟨mn, mx, rfl, hb⟩ := hp
  iapply (Entails.of_eq (wp_bind frame (wpE (defs₀ (F := F)) 𝒱₀ (thr d L) none) Set.univ _ _ _).symm)
  iapply ((part49_wp d L mn mx (blockIds L vi) ve f2).trans (wp_wand frame (wpE (defs₀ (F := F)) 𝒱₀ (thr d L) none) Set.univ)) $$ [Hids Hemb Hf]
  · isplitl [Hids]; · iexact Hids
    isplitl [Hemb]; · iexact Hemb
    iexact Hf
  iintro %p ⟨Hids, Hemb, Hf, %hp⟩
  subst hp
  iapply (Entails.of_eq (wp_bind frame (wpE (defs₀ (F := F)) 𝒱₀ (thr d L) none) Set.univ _ _ _).symm)
  iapply ((part50_wp d L O W1 W hW1 q0 q1 v30 mn mx vx fc ft ve vi hb f3 f4).trans (wp_wand frame (wpE (defs₀ (F := F)) 𝒱₀ (thr d L) none) Set.univ)) $$ [Hx0 Hx1 HA HB Hf Hb0 Hb1 Hs5 Hs6 Hs7 Hs8 Hs9 Hs10 HO]
  · isplitr; · iexact Hmw
    isplitl [Hx0]; · iexact Hx0
    isplitl [Hx1]; · iexact Hx1
    isplitl [HA]; · iexact HA
    isplitl [HB]; · iexact HB
    isplitl [Hf]; · iexact Hf
    isplitl [Hb0]; · iexact Hb0
    isplitl [Hb1]; · iexact Hb1
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact HO
  iintro %_ H
  unfold sweep side
  rw [show coming d L q0 vx 32 = _ from if_neg (by decide), show going d L (tyV vx ve vi) 32 = _ from if_neg (by decide)]
  icases H with ⟨⟨-, Hf, Hx1, Hs6, Hs7, Hs8, Hs9, ⟨%W2, %hW2, HO⟩⟩, ⟨Hb0, Hs5, Hx0⟩, ⟨%kp, %g, %hkp, HF⟩, ⟨HA, -⟩, ⟨HB, -⟩⟩
  sl_exec
  sl_step
  isplitl [Hx0]; · iexact Hx0
  isplitl [Hx1]; · iexact Hx1
  isplitl [He]; · iexact He
  isplitl [Hi]; · iexact Hi
  isplitl [HA]; · iapply (Entails.of_eq (below_all _)) $$ HA
  isplitl [HB HF_dst]
  · have e : below 32 (rowsB (F := F) d L (tyV vx ve vi)) = iprop(rowsB d L (tyV vx ve vi) kp ∗ below (32 - 1) (rowsB d L (tyV vx ve vi))) := by
      rw [← hkp, below_succ, Nat.add_sub_cancel]
    iapply (Entails.of_eq (e.symm.trans (below_all _)))
    isplitl [HF_dst]
    · unfold rowsB; iexact HF_dst
    · iexact HB
  isplitl [Hids]; · iexists _; iexact Hids
  isplitl [Hemb]; · iexists _; iexact Hemb
  isplitl [Hf]; · iexists _; iexact Hf
  isplitl [Hb0]; · iexact Hb0
  isplitl [HF_src]; · iexists _; iexact HF_src
  isplitl [Hs5]; · iexact Hs5
  isplitl [Hs6]; · iexact Hs6
  isplitl [Hs7]; · iexact Hs7
  isplitl [Hs8]; · iexact Hs8
  isplitl [Hs9]; · iexact Hs9
  isplitl [HF]; · iexact HF
  isplitl [Hsc0]; · iexact Hsc0
  isplitl [Hsc1]; · iexact Hsc1
  iexists _
  isplitr
  rotate_left
  · iexact HO
  · ipureintro
    repeat (first | exact hW2 | refine waits_insert _ ?_)

end Cert.Proof.Slot

end
-- ==== Proof.Share.lean ====
/-
  What each tile is handed: its shares of the inputs and its rows of the outputs, which together are the arrays whole.
-/
module

public import Idealize.ShloMosaic.Lib.ShareLeaves
public import proofs.«01_k».proof.Proof.Tile

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

local notation "row[" m ", " off ", " h "]" =>
  Memref.squeeze (Memref.slice m (Rect.unit (s := S256x64x4096) off S1x64x512.size h) (fun _ => rfl)) S64x512 squeezes_S1x64x512_S64x512

/-- The coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's share of an input. -/
def qT (L : grid0.Coords) : PosShare TreeShare := ShareLeaves.leaf 4 (ShareLeaves.leaf 1 fullShare (L 0)) (L 1)

/-- Row `j` of a tile's rows, as a set of the array's places. -/
def cell (L : grid0.Coords) (j : ℕ) : Finset S256x64x4096.Idx :=
  Finset.univ.filter fun y => (y 0).val = r0 L + j ∧ s0 L ≤ (y 2).val ∧ (y 2).val < s0 L + 512

/-- The block at a tile's batch entry and slots is the entry's cell. -/
theorem unit_cell (off : Fin 3 → ℕ) (h : ∀ a, off a + S1x64x512.size a ≤ S256x64x4096.size a) {j : ℕ} (e : off = ![r0 L + j, 0, s0 L]) :
    (Rect.unit (s := S256x64x4096) off S1x64x512.size h).set = cell L j := by
  subst e
  ext y
  rw [Rect.mem_set_unit]
  simp only [cell, Finset.mem_filter, Finset.mem_univ, true_and]
  constructor
  · intro hy
    have h0 : r0 L + j ≤ (y 0).val ∧ (y 0).val < r0 L + j + 1 := hy 0
    have h2 : s0 L ≤ (y 2).val ∧ (y 2).val < s0 L + 512 := hy 2
    exact ⟨by omega, h2⟩
  · rintro ⟨h0, h2⟩ a
    match a with
    | 0 => show r0 L + j ≤ (y 0).val ∧ (y 0).val < r0 L + j + 1; omega
    | 1 => show 0 ≤ (y 1).val ∧ (y 1).val < 0 + 64; have : (y 1).val < 64 := (y 1).isLt; omega
    | 2 => exact h2

/-- The tiles' rows. -/
abbrev Rows : Type := Fin 2 × Fin 16 × (Fin k0_t2_loop.trips ⊕ Fin k0_t2_loop.trips)
/-- A trip's two batch entries, counted within the tile. -/
def rowOf : Fin k0_t2_loop.trips ⊕ Fin k0_t2_loop.trips → ℕ
  | .inl k => 2 * k.val
  | .inr k => 2 * k.val + 1
/-- The cell of a tile's batch entry. -/
def cellOf (t : Rows) : Finset S256x64x4096.Idx := cell (coordsV t.1 t.2.1) (rowOf t.2.2)

/-- A tile has sixty-four batch entries. -/
theorem rowOf_lt (k) : rowOf k < 64 := by
  rcases k with k | k <;> have h : k.val < 32 := k.isLt <;> simp only [rowOf] <;> omega
/-- No two of them are the same. -/
theorem rowOf_inj {k k'} (h : rowOf k = rowOf k') : k = k' := by
  rcases k with k | k <;> rcases k' with k' | k' <;> simp only [rowOf] at h
  · exact congrArg _ (Fin.ext (by omega))
  · omega
  · omega
  · exact congrArg _ (Fin.ext (by omega))

/-- Which elements a cell has. -/
theorem mem_cellOf (t : Rows) (y : S256x64x4096.Idx) :
    y ∈ cellOf t ↔ (y 0).val = (t.2.1.val * 2 + t.1.val) / 8 * 64 + rowOf t.2.2 ∧ (y 2).val / 512 = (t.2.1.val * 2 + t.1.val) % 8 := by
  simp only [cellOf, cell, Finset.mem_filter, Finset.mem_univ, true_and]
  have h0 : r0 (coordsV t.1 t.2.1) = (t.2.1.val * 2 + t.1.val) / 8 * 64 := rfl
  have h1 : s0 (coordsV t.1 t.2.1) = (t.2.1.val * 2 + t.1.val) % 8 * 512 := rfl
  rw [h0, h1]
  omega

/-- Different cells share no element. -/
theorem cells_disjoint : ∀ t ∈ (Finset.univ : Finset Rows), ∀ t' ∈ (Finset.univ : Finset Rows), t ≠ t' → Disjoint (cellOf t) (cellOf t') := by
  intro t _ t' _ hne
  rw [Finset.disjoint_left]
  intro y h h'
  rw [mem_cellOf] at h h'
  obtain ⟨c, i, k⟩ := t
  obtain ⟨c', i', k'⟩ := t'
  have hk := rowOf_lt k
  have hk' := rowOf_lt k'
  have hc := c.isLt
  have hc' := c'.isLt
  simp only at h h'
  have e : rowOf k = rowOf k' := by omega
  have e1 : i.val * 2 + c.val = i'.val * 2 + c'.val := by omega
  exact hne (by rw [rowOf_inj e, show c = c' from Fin.ext (by omega), show i = i' from Fin.ext (by omega)])

/-- The cells make up the array. -/
theorem cells_cover : (Finset.univ : Finset Rows).biUnion cellOf = Finset.univ := by
  ext y
  simp only [Finset.mem_biUnion, Finset.mem_univ, true_and, iff_true]
  have h0 : (y 0).val < 256 := (y 0).isLt
  have h2 : (y 2).val < 4096 := (y 2).isLt
  obtain ⟨k, hk⟩ : ∃ k, rowOf k = (y 0).val % 64 := by
    by_cases hp : (y 0).val % 2 = 0
    · exact ⟨.inl ⟨(y 0).val % 64 / 2, show _ < 32 by omega⟩, show 2 * ((y 0).val % 64 / 2) = _ by omega⟩
    · exact ⟨.inr ⟨(y 0).val % 64 / 2, show _ < 32 by omega⟩, show 2 * ((y 0).val % 64 / 2) + 1 = _ by omega⟩
  refine ⟨(⟨(y 2).val / 512 % 2, by omega⟩, ⟨((y 0).val / 64 * 8 + (y 2).val / 512) / 2, by omega⟩, k), ?_⟩
  rw [mem_cellOf, hk]
  simp only
  omega

/-- The copy's array is its rows. -/
theorem cPts_rows (f : Buf (Elt F) (cLoc d)) :
    (cLoc d ↦{fullShare} f : sProp (MM F)) = bigSep Finset.univ fun c : Fin 2 => bigSep Finset.univ fun i : Fin 16 =>
      iprop((bigSep Finset.univ fun k : Fin k0_t2_loop.trips => cLoc d ↦[cell (coordsV c i) (2 * k.val)]{fullShare} f)
        ∗ (bigSep Finset.univ fun k : Fin k0_t2_loop.trips => cLoc d ↦[cell (coordsV c i) (2 * k.val + 1)]{fullShare} f)) := by
  have h := pointsTo_biUnion (Val := Elt F) (Ix := HIx 1) (Name := ℕ) (U := UU) (Lvl := ℕ) Finset.univ (ℓ := cLoc d) (q := fullShare) (f := f) cellOf cells_disjoint
  rw [cells_cover] at h
  refine h.trans ?_
  rw [bigSep_univ_prod]
  refine bigSep_congr fun c _ => ?_
  rw [bigSep_univ_prod]
  refine bigSep_congr fun i _ => ?_
  rw [bigSep_univ_sum]; rfl

/-- The sum's array is its rows. -/
theorem tPts_rows (f : Buf (Elt F) (tLoc d)) :
    (tLoc d ↦{fullShare} f : sProp (MM F)) = bigSep Finset.univ fun c : Fin 2 => bigSep Finset.univ fun i : Fin 16 =>
      iprop((bigSep Finset.univ fun k : Fin k0_t2_loop.trips => tLoc d ↦[cell (coordsV c i) (2 * k.val)]{fullShare} f)
        ∗ (bigSep Finset.univ fun k : Fin k0_t2_loop.trips => tLoc d ↦[cell (coordsV c i) (2 * k.val + 1)]{fullShare} f)) := by
  have h := pointsTo_biUnion (Val := Elt F) (Ix := HIx 1) (Name := ℕ) (U := UU) (Lvl := ℕ) Finset.univ (ℓ := tLoc d) (q := fullShare) (f := f) cellOf cells_disjoint
  rw [cells_cover] at h
  refine h.trans ?_
  rw [bigSep_univ_prod]
  refine bigSep_congr fun c _ => ?_
  rw [bigSep_univ_prod]
  refine bigSep_congr fun i _ => ?_
  rw [bigSep_univ_sum]; rfl

/-- An input is the tiles' shares of it. -/
theorem pts_shares (ℓ : Loc nD τ sig) (f : Buf (Elt F) ℓ) :
    (ℓ ↦{fullShare} f : sProp (MM F)) = bigSep Finset.univ fun c : Fin 2 => bigSep Finset.univ fun i : Fin 16 => ℓ ↦{qT (coordsV c i)} f := by
  refine (ShareLeaves.pointsTo_leaves Finset.univ f 1 fullShare).trans ?_
  refine bigSep_congr fun c _ => ?_
  exact ShareLeaves.pointsTo_leaves Finset.univ f 4 _

/-- The elements of a block of the copy. -/
theorem set_c (off : Fin 3 → ℕ) (h : ∀ a, off a + S1x64x512.size a ≤ S256x64x4096.size a) {j : ℕ} (e : off = ![r0 L + j, 0, s0 L]) :
    row[cM, off, h].view.set = cell L j :=
  (View.set_reshape _ _).trans ((View.set_slice_whole _ _).trans (unit_cell L off h e))
/-- The elements of a block of the sum. -/
theorem set_t (off : Fin 3 → ℕ) (h : ∀ a, off a + S1x64x512.size a ≤ S256x64x4096.size a) {j : ℕ} (e : off = ![r0 L + j, 0, s0 L]) :
    row[tM, off, h].view.set = cell L j :=
  (View.set_reshape _ _).trans ((View.set_slice_whole _ _).trans (unit_cell L off h e))

/-- A tile's rows, by the arrays' places. -/
theorem rowsA_eq (gc gt : S256x64x4096.Idx → Elt F .f32) (k : Fin k0_t2_loop.trips) :
    rowsA (F := F) d L gc gt k = iprop((cLoc d ↦[cell L (2 * k.val)]{fullShare} gc) ∗ (cLoc d ↦[cell L (2 * k.val + 1)]{fullShare} gc)
      ∗ (tLoc d ↦[cell L (2 * k.val)]{fullShare} gt)) := by
  unfold rowsA
  rw [set_c L _ _ (off40_eq L k), set_c L _ _ (off106_eq L k), set_t L _ _ (off105_eq L k)]
/-- A trip's second block of the sum, as a cell. -/
theorem rowsB_eq (gt : S256x64x4096.Idx → Elt F .f32) (k : Fin k0_t2_loop.trips) :
    rowsB (F := F) d L gt k = (tLoc d ↦[cell L (2 * k.val + 1)]{fullShare} gt) := by
  unfold rowsB
  rw [set_t L _ _ (off106_eq L k)]

/-- What a tile holds of the arrays: its shares of the inputs, and its rows of the outputs at the contents given. -/
def tilePts (vx : S256x64x4096.Idx → Elt F .f32) (ve : S64x48.Idx → Elt F .f32) (vi : S4096.Idx → Elt F .i32) (fc ft : S256x64x4096.Idx → Elt F .f32) : sProp (MM F) :=
  iprop((xLoc d ↦{(qT L).left} vx) ∗ (xLoc d ↦{(qT L).right} vx) ∗ (eLoc d ↦{qT L} ve) ∗ (iLoc d ↦{qT L} vi)
    ∗ bigSep Finset.univ (rowsA d L fc ft) ∗ bigSep Finset.univ (rowsB d L ft))

/-- The tiles' holdings are the arrays whole. -/
theorem tiles_eq (vx : S256x64x4096.Idx → Elt F .f32) (ve : S64x48.Idx → Elt F .f32) (vi : S4096.Idx → Elt F .i32) (fc ft : S256x64x4096.Idx → Elt F .f32) :
    (bigSep Finset.univ fun c : Fin 2 => bigSep Finset.univ fun i : Fin 16 => tilePts (F := F) d (coordsV c i) vx ve vi fc ft)
      = iprop((xLoc d ↦{fullShare} vx) ∗ (eLoc d ↦{fullShare} ve) ∗ (iLoc d ↦{fullShare} vi) ∗ (cLoc d ↦{fullShare} fc) ∗ (tLoc d ↦{fullShare} ft)) := by
  have hx : ∀ q : PosShare TreeShare, (xLoc d ↦{q} vx : sProp (MM F)) = iprop((xLoc d ↦{q.left} vx) ∗ (xLoc d ↦{q.right} vx)) := fun q =>
    BI.Entails.antisymm (pointsTo_share (PosShare.mem_left_op_right q)).1 (pointsTo_share (PosShare.mem_left_op_right q)).2
  have e : ∀ L : grid0.Coords, tilePts (F := F) d L vx ve vi fc ft
      = iprop((xLoc d ↦{qT L} vx) ∗ (eLoc d ↦{qT L} ve) ∗ (iLoc d ↦{qT L} vi)
        ∗ ((bigSep Finset.univ fun k : Fin k0_t2_loop.trips => cLoc d ↦[cell L (2 * k.val)]{fullShare} fc)
          ∗ (bigSep Finset.univ fun k : Fin k0_t2_loop.trips => cLoc d ↦[cell L (2 * k.val + 1)]{fullShare} fc))
        ∗ ((bigSep Finset.univ fun k : Fin k0_t2_loop.trips => tLoc d ↦[cell L (2 * k.val)]{fullShare} ft)
          ∗ (bigSep Finset.univ fun k : Fin k0_t2_loop.trips => tLoc d ↦[cell L (2 * k.val + 1)]{fullShare} ft))) := by
    intro L
    unfold tilePts
    rw [show rowsA (F := F) d L fc ft = _ from funext (rowsA_eq d L fc ft), show rowsB (F := F) d L ft = _ from funext (rowsB_eq d L ft), bigSep_sep', bigSep_sep', hx (qT L)]
    refine BI.Entails.antisymm ?_ ?_
    · change @BIBase.Entails (sProp (MM F)) _ _ _
      iintro ⟨H1, H2, H3, H4, ⟨H5, H6, H7⟩, H8⟩
      isplitl [H1 H2]; · isplitl [H1] <;> iassumption
      isplitl [H3]; · iexact H3
      isplitl [H4]; · iexact H4
      isplitl [H5 H6]; · isplitl [H5] <;> iassumption
      isplitl [H7] <;> iassumption
    · change @BIBase.Entails (sProp (MM F)) _ _ _
      iintro ⟨⟨H1, H2⟩, H3, H4, ⟨H5, H6⟩, H7, H8⟩
      isplitl [H1]; · iexact H1
      isplitl [H2]; · iexact H2
      isplitl [H3]; · iexact H3
      isplitl [H4]; · iexact H4
      isplitl [H5 H6 H7]
      · isplitl [H5]; · iexact H5
        isplitl [H6] <;> iassumption
      iexact H8
  rw [pts_shares (xLoc d), pts_shares (eLoc d), pts_shares (iLoc d), cPts_rows, tPts_rows]
  simp only [e, bigSep_sep']

end Cert.Proof.Slot

end
-- ==== Proof.Task.lean ====
/-
  The launch's obligations: what the handshakes carry, the tile's task, the split among the tiles.
-/
module

public import proofs.«01_k».proof.Proof.Share

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

/-- The tile's semaphores as a family. -/
def semOf : Fin 8 → SemLoc sig
  | 0 => .dma cc0_scratch5.sem
  | 1 => .dma cc0_scratch6.sem
  | 2 => .dma cc0_scratch7.sem
  | 3 => .dma cc0_scratch8.sem
  | 4 => .dma cc0_scratch9.sem
  | 5 => .dma cc0_scratch10.sem
  | 6 => .dma cc0_scoped0.sem
  | 7 => .dma cc0_scoped1.sem

/-- The tile's buffers as a family. -/
def refOf : Fin 5 → Ref sig .scVector
  | 0 => cc0_scratch0
  | 1 => cc0_scratch1
  | 2 => cc0_scratch2
  | 3 => cc0_scratch3
  | 4 => cc0_scratch4

/-- The listed semaphores are different. -/
theorem semOf_inj : Function.Injective semOf := by decide
/-- The listed buffers are different. -/
theorem refOf_inj : Function.Injective refOf := by decide
/-- The listed semaphores are the tile's own. -/
theorem semOf_scoped : ∀ i, (semOf i).isScoped .scVector = true := by decide

omit [FloatOps F] in
/-- A family taken out of a separating conjunction. -/
theorem bigSep_family {I J : Type} [DecidableEq I] [DecidableEq J] [Fintype J] (s : Finset I) (g : J → I) (hg : Function.Injective g) (hs : ∀ j, g j ∈ s) (Φ : I → sProp (MM F)) :
    bigSep s Φ = iprop((bigSep Finset.univ fun j => Φ (g j)) ∗ bigSep (s \ Finset.univ.image g) Φ) := by
  have hsub : Finset.univ.image g ⊆ s := by
    intro x hx
    obtain ⟨j, -, rfl⟩ := Finset.mem_image.mp hx
    exact hs j
  rw [SparseCore.bigSep_sdiff_split' hsub, SparseCore.bigSep_image_of_injOn hg.injOn]

/-- The tile's semaphores outside the family. -/
def semsRest : sProp (MM F) :=
  bigSep (ownCells (thr d L) \ Finset.univ.image fun i => ((thr d L, semOf i) : GSem nD τ sig)) fun g => semVal g 0
/-- The tile's buffers outside the family. -/
def bufsRest : sProp (MM F) :=
  bigSep (ownRefs (τ := τ) (.scVector (cV L) (jV L)) \ Finset.univ.image fun i => (Proc.scVector (cV L) (jV L)).devRef (refOf i))
    fun b => iprop(∃ f, ((d, b) : Loc nD τ sig) ↦{fullShare} f)

/-- A tile's own semaphores at zero, one by one. -/
theorem sems_eq : (ownSems0 (thr d L) : sProp (MM F)) = iprop((semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scoped0.sem) 0 ∗ semVal (thr d L, SemLoc.dma cc0_scoped1.sem) 0) ∗ semsRest d L) := by
  unfold SparseCore.Cfg.ownSems0
  refine (bigSep_family _ (fun i => ((thr d L, semOf i) : GSem nD τ sig)) (fun i j e => semOf_inj (Prod.mk.inj e).2)
    (fun i => mem_ownCells.mpr ⟨rfl, semOf_scoped i⟩) _).trans ?_
  rw [show (Finset.univ : Finset (Fin 8)) = {0, 1, 2, 3, 4, 5, 6, 7} by decide]
  iterate 7 rw [SparseCore.bigSep_insert' (by decide)]
  rw [bigSep_singleton]
  rfl

/-- A tile's own buffers, one by one. -/
theorem bufs_eq : (ownBufs (thr d L) : sProp (MM F)) = iprop(((∃ f, idsM.view.loc (thr d L) ↦{fullShare} f) ∗ (∃ f, embM.view.loc (thr d L) ↦{fullShare} f) ∗ (∃ f, fbM.view.loc (thr d L) ↦{fullShare} f) ∗ (∃ f, b0M.view.loc (thr d L) ↦{fullShare} f) ∗ (∃ f, b1M.view.loc (thr d L) ↦{fullShare} f)) ∗ bufsRest d L) := by
  unfold SparseCore.Cfg.ownBufs
  refine (bigSep_family _ (fun i => (Proc.scVector (cV L) (jV L)).devRef (refOf i)) (fun i j e => refOf_inj (Proc.devRef_injective _ e))
    (fun i => SparseCore.Cfg.mem_ownRefs_of_owner (p := Proc.scVector (cV L) (jV L)) (b := (Proc.scVector (cV L) (jV L)).devRef (refOf i)) (by fin_cases i <;> rfl)) _).trans ?_
  rw [show (Finset.univ : Finset (Fin 5)) = {0, 1, 2, 3, 4} by decide]
  iterate 4 rw [SparseCore.bigSep_insert' (by decide)]
  rw [bigSep_singleton]
  rfl

variable (vx fc ft : Dev nD → S256x64x4096.Idx → Elt F .f32) (ve : Dev nD → S64x48.Idx → Elt F .f32) (vi : Dev nD → S4096.Idx → Elt F .i32)

/-- A tile's holding before its task. -/
abbrev before : sProp (MM F) := tilePts d L (vx d) (ve d) (vi d) (fc d) (ft d)
/-- And after. -/
abbrev after : sProp (MM F) := tilePts d L (vx d) (ve d) (vi d) (vx d) (tyV (vx d) (ve d) (vi d))

instance tile_storable (a : S256x64x4096.Idx → Elt F .f32) (b : S64x48.Idx → Elt F .f32) (c : S4096.Idx → Elt F .i32) (e f : S256x64x4096.Idx → Elt F .f32) :
    BI.Storable (upEmb : UEmb _ (MM F)) (tilePts d L a b c e f) := by
  unfold tilePts
  rw [show rowsA (F := F) d L e f = _ from funext (rowsA_eq d L e f), show rowsB (F := F) d L f = _ from funext (rowsB_eq d L f)]
  infer_instance

attribute [local irreducible] tilePts tyV

/-- What the handshakes carry. -/
def P : (K (F := F)).Pay (nD := nD) (Val := Elt F) (Name := ℕ) (U := UU) where
  st := fun q d c => match q with | 0 => bigSep Finset.univ fun i : Fin ((K (F := F)).nSub 0) => before d (coordsV (Fin.cast nCore_zero c) (Fin.cast nSub_zero i)) vx fc ft ve vi
  dn := fun q d c => match q with | 0 => bigSep Finset.univ fun i : Fin ((K (F := F)).nSub 0) => after d (coordsV (Fin.cast nCore_zero c) (Fin.cast nSub_zero i)) vx ve vi
  go := fun q d c i => match q with | 0 => before d (coordsV (Fin.cast nCore_zero c) (Fin.cast nSub_zero i)) vx fc ft ve vi
  td := fun q d c i => match q with | 0 => after d (coordsV (Fin.cast nCore_zero c) (Fin.cast nSub_zero i)) vx ve vi
  x := fun _ _ => iprop(emp)

instance P_storable : (P (F := F) vx fc ft ve vi).IsStorable where
  st q d c := match q with
    | 0 => (inferInstance : BI.Storable (upEmb : UEmb _ (MM F)) (bigSep Finset.univ fun i : Fin ((K (F := F)).nSub 0) => before d (coordsV (Fin.cast nCore_zero c) (Fin.cast nSub_zero i)) vx fc ft ve vi))
  dn q d c := match q with
    | 0 => (inferInstance : BI.Storable (upEmb : UEmb _ (MM F)) (bigSep Finset.univ fun i : Fin ((K (F := F)).nSub 0) => after d (coordsV (Fin.cast nCore_zero c) (Fin.cast nSub_zero i)) vx ve vi))
  go q d c i := match q with
    | 0 => tile_storable d _ _ _ _ _ _
  td q d c i := match q with
    | 0 => tile_storable d _ _ _ _ _ _

/-- The task on a tile, with all the tile's own scratch. -/
theorem tile_body (hF : (K (F := F)).Facts) (O : CellTallies nD τ sig (HIx 1)) (W : Waits sig (HIx 1)) (hO : ∀ g, O g none = 0) :
    iprop(levAts (K (F := F)).L (K (F := F)).lev ∗ emp ∗ before d L vx fc ft ve vi
        ∗ scopedBufs (thr d L) ∗ scopedSems0 (thr d L) ∗ owes (thr d L) O W)
      ⊢ wp frame (wpE (defs₀ (F := F)) 𝒱₀ (thr d L) none) Set.univ
          (cc0__sc_body (F := F) L xM (Memref.isWhole_whole _) eM (Memref.isWhole_whole _) iM (Memref.isWhole_whole _) cM (Memref.isWhole_whole _) tM (Memref.isWhole_whole _)
            idsM (Memref.isWhole_whole _) embM (Memref.isWhole_whole _) fbM (Memref.isWhole_whole _) b0M (Memref.isWhole_whole _) b1M (Memref.isWhole_whole _)
            cc0_scratch5 cc0_scratch6 cc0_scratch7 cc0_scratch8 cc0_scratch9 cc0_scratch10 cc0_scoped0 cc0_scoped1)
          fun _ => iprop(after d L vx ve vi ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  rw [sems_eq, bufs_eq]
  unfold before after tilePts
  iintro ⟨#Hlv, -, ⟨Hx0, Hx1, He, Hi, HA, HB⟩, ⟨⟨G0, G1, G2, G3, G4⟩, Hbufs⟩, ⟨⟨S0, S1, S2, S3, S4, S5, S6, S7⟩, Hsems⟩, HO⟩
  ihave Hmw := (show levAts (K (F := F)).L (K (F := F)).lev ⊢ Transfers.MayWaits (thr d L) (none : HIx 1) O from
    (K (F := F)).mayWaits_none (thr := thr d L) hO) $$ Hlv
  iapply ((tile_run d L O W (qT L).left (qT L).right (qT L) (qT L) (vx d) (fc d) (ft d) (ve d) (vi d)).trans (wp_wand frame (wpE (defs₀ (F := F)) 𝒱₀ (thr d L) none) Set.univ)) $$ [Hmw Hx0 Hx1 He Hi HA HB G0 G1 G2 G3 G4 S0 S1 S2 S3 S4 S5 S6 S7 HO]
  · isplitl [Hmw]; · iexact Hmw
    isplitl [Hx0]; · iexact Hx0
    isplitl [Hx1]; · iexact Hx1
    isplitl [He]; · iexact He
    isplitl [Hi]; · iexact Hi
    isplitl [HA]; · iexact HA
    isplitl [HB]; · iexact HB
    isplitl [G0]; · iexact G0
    isplitl [G1]; · iexact G1
    isplitl [G2]; · iexact G2
    isplitl [G3]; · iexact G3
    isplitl [G4]; · iexact G4
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact HO
  iintro %_ ⟨Hx0, Hx1, He, Hi, HA, HB, G0, G1, G2, G3, G4, S0, S1, S2, S3, S4, S5, S6, S7, HO⟩
  isplitl [Hx0 Hx1 He Hi HA HB]
  · isplitl [Hx0]; · iexact Hx0
    isplitl [Hx1]; · iexact Hx1
    isplitl [He]; · iexact He
    isplitl [Hi]; · iexact Hi
    isplitl [HA]; · iexact HA
    iexact HB
  isplitl [G0 G1 G2 G3 G4 Hbufs]
  · isplitl [G0 G1 G2 G3 G4]
    · isplitl [G0]; · iexact G0
      isplitl [G1]; · iexact G1
      isplitl [G2]; · iexact G2
      isplitl [G3]; · iexact G3
      iexact G4
    iexact Hbufs
  isplitl [S0 S1 S2 S3 S4 S5 S6 S7 Hsems]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hsems
  iexact HO

/-- What a tile runs. -/
theorem defs₀_vector (c : Fin τ.nSC) (s : Fin τ.nSub) :
    defs₀ (F := F) (.scVector c s) 0 ()
      = SparseCore.onTile hcore0 hsub0 (fun c s => cc0__sc_body (F := F) (coordsV c s) xM (Memref.isWhole_whole _) eM (Memref.isWhole_whole _) iM (Memref.isWhole_whole _) cM (Memref.isWhole_whole _) tM (Memref.isWhole_whole _)
          idsM (Memref.isWhole_whole _) embM (Memref.isWhole_whole _) fbM (Memref.isWhole_whole _) b0M (Memref.isWhole_whole _) b1M (Memref.isWhole_whole _)
          cc0_scratch5 cc0_scratch6 cc0_scratch7 cc0_scratch8 cc0_scratch9 cc0_scratch10 cc0_scoped0 cc0_scoped1) ⟨⟩ c s := rfl

/-- The task's end in the launch's spelling. -/
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task meets what the launch asks of it. -/
theorem tileObl (hF : (K (F := F)).Facts) : (K (F := F)).TileObl (D (F := F)) 𝒱 (P vx fc ft ve vi) v₀ 0 := by
  intro d c i O W hO _ _
  simp only [show (P (F := F) vx fc ft ve vi).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) vx fc ft ve vi hF O W hO).trans (wp_mono frame _ _ fun _ => obl_post)

/-- A family over the call's cores and tiles, over the literal ranges. -/
theorem bigSep_tasks (Φ : Fin 2 → Fin 16 → sProp (MM F)) :
    (bigSep Finset.univ fun c : Fin ((K (F := F)).nCore 0) => bigSep Finset.univ fun i : Fin ((K (F := F)).nSub 0) => Φ (Fin.cast nCore_zero c) (Fin.cast nSub_zero i))
      = bigSep Finset.univ fun c : Fin 2 => bigSep Finset.univ fun i : Fin 16 => Φ c i :=
  bigSep_congr fun _ _ => bigSep_congr fun _ _ => congrArg₂ Φ (Fin.ext rfl) (Fin.ext rfl)

/-- What a SparseCore is handed is what its tiles are handed, and the same on the way back. -/
theorem vecSplit : (K (F := F)).VecSplit' (P vx fc ft ve vi) 0 := by
  intro d c
  unfold P
  iintro H; imodintro
  isplitl [H]; · iexact H
  iintro H; iexact H

/-- What the call takes for the two cores: the arrays whole. -/
theorem st0_eq : (bigSep Finset.univ fun c : Fin ((K (F := F)).nCore 0) => (P vx fc ft ve vi).st 0 d c)
    = iprop((xLoc d ↦{fullShare} vx d) ∗ (eLoc d ↦{fullShare} ve d) ∗ (iLoc d ↦{fullShare} vi d) ∗ (cLoc d ↦{fullShare} fc d) ∗ (tLoc d ↦{fullShare} ft d)) := by
  unfold P
  exact (bigSep_tasks fun c i => before d (coordsV c i) vx fc ft ve vi).trans (tiles_eq d (vx d) (ve d) (vi d) (fc d) (ft d))
/-- What it hands back: the arrays, the copy and the sum in place. -/
theorem dn0_eq : (bigSep Finset.univ fun c : Fin ((K (F := F)).nCore 0) => (P vx fc ft ve vi).dn 0 d c)
    = iprop((xLoc d ↦{fullShare} vx d) ∗ (eLoc d ↦{fullShare} ve d) ∗ (iLoc d ↦{fullShare} vi d) ∗ (cLoc d ↦{fullShare} vx d) ∗ (tLoc d ↦{fullShare} tyV (vx d) (ve d) (vi d))) := by
  unfold P
  exact (bigSep_tasks fun c i => after d (coordsV c i) vx ve vi).trans (tiles_eq d (vx d) (ve d) (vi d) (vx d) _)

end Cert.Proof.Slot

end
-- ==== Proof.Feat.lean ====
/-
  The feature kernel on the TensorCore: its body at a grid point.
-/
module

public import Idealize.ShloMosaic.Lib.WritesUnit
public import proofs.«01_k».proof.Proof.Gen.KernelIdeal.Points
public import proofs.«01_k».proof.Proof.Gen.KernelIdeal.Launch
public import proofs.«01_k».proof.Proof.Task

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

open ValueIdx (ix1 ix2 ix3)

/-- The kernel's scratch buffer. -/
abbrev scrM : Memref sig .tc .vmem S64x4096 .f32 := Memref.whole cc1_scratch0

/-- The features of one batch entry, feature by slot: the table's entry for the slot's type. -/
def pat (gi : S1x4096.Idx → Elt F .i32) (ge : S64x8.Idx → Elt F .f32) (y : S64x4096.Idx) : Elt F .f32 :=
  pick (F := F) (gi (ix2 0 (y 1))) (ge (ix2 (y 0) 0)) (ge (ix2 (y 0) 1)) (ge (ix2 (y 0) 2))

/-- The same as a block of one batch entry. -/
def patB (p : S64x4096.Idx → Elt F .f32) (y : S1x64x4096.Idx) : Elt F .f32 := p (ix2 (y 1) (y 2))

/-- A column of the table spread over the slots. -/
theorem col_apply (v : S64x1.Idx → Elt F .f32) (h : S64x1.ShapeCasts S64x1) (hb : S64x1.Broadcasts S64x4096) (y : S64x4096.Idx) :
    broadcastTo S64x4096 (shapeCast S64x1 (shapeCast S64x1 v h) h) hb y = v (ix2 (y 0) 0) := by
  rw [shapeCast_self, shapeCast_self]
  refine broadcastTo_apply _ _ y _ fun a => ?_
  match a with
  | ⟨0, _⟩ => rfl
  | ⟨1, _⟩ => rfl

/-- The row of types spread over the features. -/
theorem row_apply (v : S1x4096.Idx → Elt F .i32) (h : S1x4096.ShapeCasts S1x4096) (hb : S1x4096.Broadcasts S64x4096) (y : S64x4096.Idx) :
    broadcastTo S64x4096 (shapeCast S1x4096 (shapeCast S1x4096 v h) h) hb y = v (ix2 0 (y 1)) := by
  rw [shapeCast_self, shapeCast_self]
  refine broadcastTo_apply _ _ y _ fun a => ?_
  match a with
  | ⟨0, _⟩ => rfl
  | ⟨1, _⟩ => rfl

/-- What the kernel computes at its first point is the features of one batch entry. -/
theorem pay1_apply (v7 : Vec F S1x4096 .i32) (v11 v17 v24 : Vec F S64x1 .f32) (δ : Fin 64) (σ : Fin 4096) :
    k1_pay1 v7 v11 v17 v24 (ix2 δ σ) = pick (F := F) (v7 (ix2 0 σ)) (v24 (ix2 δ 0)) (v17 (ix2 δ 0)) (v11 (ix2 δ 0)) := by
  have e : k1_pay1 v7 v11 v17 v24 (ix2 δ σ)
      = (Scalar.select (Scalar.cmpi .eq (broadcastTo S64x4096 (shapeCast S1x4096 (shapeCast S1x4096 v7 shapeCasts_S1x4096_S1x4096) shapeCasts_S1x4096_S1x4096) broadcasts_S1x4096_S64x4096 (ix2 δ σ)) 0#32)
        (broadcastTo S64x4096 (shapeCast S64x1 (shapeCast S64x1 v24 shapeCasts_S64x1_S64x1) shapeCasts_S64x1_S64x1) broadcasts_S64x1_S64x4096 (ix2 δ σ))
        (Scalar.select (Scalar.cmpi .eq (broadcastTo S64x4096 (shapeCast S1x4096 (shapeCast S1x4096 v7 shapeCasts_S1x4096_S1x4096) shapeCasts_S1x4096_S1x4096) broadcasts_S1x4096_S64x4096 (ix2 δ σ)) 1#32)
          (broadcastTo S64x4096 (shapeCast S64x1 (shapeCast S64x1 v17 shapeCasts_S64x1_S64x1) shapeCasts_S64x1_S64x1) broadcasts_S64x1_S64x4096 (ix2 δ σ))
          (broadcastTo S64x4096 (shapeCast S64x1 (shapeCast S64x1 v11 shapeCasts_S64x1_S64x1) shapeCasts_S64x1_S64x1) broadcasts_S64x1_S64x4096 (ix2 δ σ))) : Elt F .f32) := by
    unfold k1_pay1
    exact congrFun (shapeCast_self _ _) _
  rw [e, pick_select, row_apply, col_apply, col_apply, col_apply]

/-- The whole of a rank-2 view, stored, is read back. -/
theorem read_put {κ : Kind} {sp : Space} {a b : ℕ} {e : EltTy} (v : View sig κ sp ⟨2, ![a, b]⟩ e) (f : v.ty.Contents (Elt F)) (inb : ∀ k, (![0, 0] : Fin 2 → ℕ) k + (![a, b] : Fin 2 → ℕ) k ≤ (![a, b] : Fin 2 → ℕ) k)
    (w : (⟨2, ![a, b]⟩ : Shape).Idx → Elt F e) :
    v.read (Elt F) (v.writes (Elt F) f [⟨Rect.unit (s := ⟨2, ![a, b]⟩) ![0, 0] ![a, b] inb, w⟩]) = w := by
  funext y
  exact View.read_writes_cons_unit_of_mem v f inb w [] y y rfl fun k => match k with
    | ⟨0, _⟩ => (Nat.zero_add _).symm
    | ⟨1, _⟩ => (Nat.zero_add _).symm

/-- The same at rank 3. -/
theorem read_put3 {κ : Kind} {sp : Space} {a b c : ℕ} {e : EltTy} (v : View sig κ sp ⟨3, ![a, b, c]⟩ e) (f : v.ty.Contents (Elt F))
    (inb : ∀ k, (![0, 0, 0] : Fin 3 → ℕ) k + (![a, b, c] : Fin 3 → ℕ) k ≤ (![a, b, c] : Fin 3 → ℕ) k) (w : (⟨3, ![a, b, c]⟩ : Shape).Idx → Elt F e) :
    v.read (Elt F) (v.writes (Elt F) f [⟨Rect.unit (s := ⟨3, ![a, b, c]⟩) ![0, 0, 0] ![a, b, c] inb, w⟩]) = w := by
  funext y
  exact View.read_writes_cons_unit_of_mem v f inb w [] y y rfl fun k => match k with
    | ⟨0, _⟩ => (Nat.zero_add _).symm
    | ⟨1, _⟩ => (Nat.zero_add _).symm
    | ⟨2, _⟩ => (Nat.zero_add _).symm

/-- The whole of a rank-2 view, loaded after it was stored. -/
theorem readCov_zero {κ : Kind} {sp : Space} {a b : ℕ} {e : EltTy} (v : View sig κ sp ⟨2, ![a, b]⟩ e) (inb : ∀ k, (![0, 0] : Fin 2 → ℕ) k + (![a, b] : Fin 2 → ℕ) k ≤ (![a, b] : Fin 2 → ℕ) k)
    (w : (⟨2, ![a, b]⟩ : Shape).Idx → Elt F e) :
    v.readCov [⟨Rect.unit (s := ⟨2, ![a, b]⟩) ![0, 0] ![a, b] inb, w⟩] (Rect.unit (s := ⟨2, ![a, b]⟩) ![0, 0] ![a, b] inb).toLoadRect = w :=
  View.readCov_unit_zero v (funext fun k => match k with | 0 => rfl | 1 => rfl) inb w

/-- The whole of a rank-2 view, loaded. -/
theorem load_whole {κ : Kind} {sp : Space} {a b : ℕ} {e : EltTy} (v : View sig κ sp ⟨2, ![a, b]⟩ e) (f : v.ty.Contents (Elt F)) (inb : ∀ k, (![0, 0] : Fin 2 → ℕ) k + (![a, b] : Fin 2 → ℕ) k ≤ (![a, b] : Fin 2 → ℕ) k) :
    v.readAt (Elt F) (Rect.unit (s := ⟨2, ![a, b]⟩) ![0, 0] ![a, b] inb).toLoadRect f = v.read (Elt F) f := by
  funext y
  have e : (Rect.unit (s := ⟨2, ![a, b]⟩) ![0, 0] ![a, b] inb).emb y = y := by
    funext k; apply Fin.ext
    match k with
    | ⟨0, _⟩ => show 0 + 1 * (y 0).val = (y 0).val; omega
    | ⟨1, _⟩ => show 0 + 1 * (y 1).val = (y 1).val; omega
  exact congrArg (v.read (Elt F) f) e

/-- A column of the table's view, loaded. -/
theorem load_col {κ : Kind} {sp : Space} (v : View sig κ sp S64x8 .f32) (f : v.ty.Contents (Elt F)) {off : Fin 2 → ℕ} (k : Fin 8) (h : off = ![0, k.val])
    (inb : ∀ a, off a + S64x1.size a ≤ S64x8.size a) (δ : Fin 64) :
    v.readAt (Elt F) (Rect.unit (s := S64x8) off S64x1.size inb).toLoadRect f (ix2 δ 0) = v.read (Elt F) f (ix2 δ k) := by
  have e : (Rect.unit (s := S64x8) off S64x1.size inb).emb (ix2 δ 0) = ix2 δ k := by
    subst h
    funext a; apply Fin.ext
    match a with
    | ⟨0, _⟩ => show 0 + 1 * δ.val = δ.val; omega
    | ⟨1, _⟩ => show k.val + 1 * 0 = k.val; omega
  exact congrArg (v.read (Elt F) f) e

/-- The stored block is the scratch buffer's contents. -/
theorem pay2_apply (p : Vec F S64x4096 .f32) : k1_pay2 p = patB p := by
  funext y
  show shapeCast S1x64x4096 p _ y = p (ix2 (y 1) (y 2))
  refine shapeCast_apply _ _ _ _ ?_
  have hu : (y 0).val < 1 := (y 0).isLt
  rw [Shape.rowMajor_val_three, Shape.rowMajor_val_two]
  show (y 1).val * 4096 + (y 2).val = ((y 0).val * 64 + (y 1).val) * 4096 + (y 2).val
  omega

/-- The first point's pattern, of what the two operands' views read. -/
theorem pay1_read (v0 : View sig .tc .vmem S1x4096 .i32) (v1 : View sig .tc .vmem S64x8 .f32) (f0 : v0.ty.Contents (Elt F)) (f1 : v1.ty.Contents (Elt F)) :
    k1_pay1 (v0.readAt (Elt F) (Rect.unit (s := S1x4096) ![0, 0] S1x4096.size inb_S1x4096_S1x4096_0_0).toLoadRect f0)
      (v1.readAt (Elt F) (Rect.unit (s := S64x8) ![0, 2] S64x1.size inb_S64x8_S64x1_0_2).toLoadRect f1)
      (v1.readAt (Elt F) (Rect.unit (s := S64x8) ![0, 1] S64x1.size inb_S64x8_S64x1_0_1).toLoadRect f1)
      (v1.readAt (Elt F) (Rect.unit (s := S64x8) ![0, 0] S64x1.size inb_S64x8_S64x1_0_0).toLoadRect f1)
      = pat (v0.read (Elt F) f0) (v1.read (Elt F) f1) := by
  funext y
  obtain ⟨δ, σ, rfl⟩ : ∃ (δ : Fin 64) (σ : Fin 4096), y = ix2 δ σ := ⟨y 0, y 1, ValueIdx.eq_ix2 y⟩
  rw [pay1_apply, load_col v1 f1 (off := ![0, 2]) 2 rfl, load_col v1 f1 (off := ![0, 1]) 1 rfl, load_col v1 f1 (off := ![0, 0]) 0 rfl]
  exact congrArg (fun g : S1x4096.Idx → Elt F .i32 => pick (F := F) (g (ix2 0 σ)) _ _ _) (load_whole v0 f0 inb_S1x4096_S1x4096_0_0)

variable (i : grid1.Coords) (M0 : Memref sig .tc .vmem S1x4096 .i32) (h0 : M0.IsWhole) (M1 : Memref sig .tc .vmem S64x8 .f32) (h1 : M1.IsWhole)
    (M2 : Memref sig .tc .vmem S1x64x4096 .f32) (h2 : M2.IsWhole)
    (f0 : Buf (Elt F) (M0.view.loc (T d))) (f1 : Buf (Elt F) (M1.view.loc (T d))) (f2 : Buf (Elt F) (M2.view.loc (T d))) (f3 : Buf (Elt F) (scrM.view.loc (T d)))

set_option maxHeartbeats 1000000 in
/-- The body at the first point leaves the pattern in the scratch buffer and in the result's block. -/
theorem body_first (hi : (i 0).val = 0) :
    iprop((M0.view.loc (T d) ↦{fullShare} f0) ∗ (M1.view.loc (T d) ↦{fullShare} f1) ∗ (M2.view.loc (T d) ↦{fullShare} f2) ∗ (scrM.view.loc (T d) ↦{fullShare} f3))
      ⊢ (wp frame (wpE (defs₀ (F := F)) 𝒱₀ (T d) none) Set.univ (cc1__tc_feat_body i M0 h0 M1 h1 M2 h2 scrM (Memref.isWhole_whole _))
        fun _ => iprop((M0.view.loc (T d) ↦{fullShare} f0) ∗ (M1.view.loc (T d) ↦{fullShare} f1)
          ∗ (∃ g : Buf (Elt F) (M2.view.loc (T d)), ⌜M2.view.read (Elt F) g = patB (pat (M0.view.read (Elt F) f0) (M1.view.read (Elt F) f1))⌝ ∗ M2.view.loc (T d) ↦{fullShare} g)
          ∗ (∃ g : Buf (Elt F) (scrM.view.loc (T d)), ⌜scrM.view.read (Elt F) g = pat (M0.view.read (Elt F) f0) (M1.view.read (Elt F) f1)⌝ ∗ scrM.view.loc (T d) ↦{fullShare} g)) : sProp (MM F)) := by
  rw [cc1__tc_feat_body_eq_skeleton]; unfold cc1__tc_feat_body_skel
  have hc : Scalar.cmpi .ne (Scalar.extui (Scalar.cmpi .eq (BitVec.ofNat 32 (i 0).val) 0#32) : BitVec 32) 0#32 = 1#1 := by rw [hi]; decide
  iintro ⟨H0, H1, H2, H3⟩
  sl_exec
  sl_step
  isplitl [H0]; · iexact H0
  isplitl [H1]; · iexact H1
  isplitl [H2]
  · iexists _; isplitr; rotate_left; · iexact H2
    ipureintro
    unfold body_first.sl.v3 body_first.sl.H3_1
    refine (read_put3 M2.view f2 inb_S1x64x4096_S1x64x4096_0_0_0 _).trans ((pay2_apply _).trans (congrArg patB ?_))
    exact (readCov_zero scrM.view inb_S64x4096_S64x4096_0_0 _).trans (pay1_read M0.view M1.view f0 f1)
  iexists _; isplitr; rotate_left; · iexact H3
  ipureintro
  unfold body_first.sl.H3_1
  exact (read_put scrM.view f3 inb_S64x4096_S64x4096_0_0 _).trans (pay1_read M0.view M1.view f0 f1)

set_option maxHeartbeats 1000000 in
/-- The body at a later point copies the scratch buffer into the result's block. -/
theorem body_next (hi : (i 0).val ≠ 0) :
    iprop((M2.view.loc (T d) ↦{fullShare} f2) ∗ (scrM.view.loc (T d) ↦{fullShare} f3))
      ⊢ (wp frame (wpE (defs₀ (F := F)) 𝒱₀ (T d) none) Set.univ (cc1__tc_feat_body i M0 h0 M1 h1 M2 h2 scrM (Memref.isWhole_whole _))
        fun _ => iprop((∃ g : Buf (Elt F) (M2.view.loc (T d)), ⌜M2.view.read (Elt F) g = patB (scrM.view.read (Elt F) f3)⌝ ∗ M2.view.loc (T d) ↦{fullShare} g)
          ∗ scrM.view.loc (T d) ↦{fullShare} f3) : sProp (MM F)) := by
  rw [cc1__tc_feat_body_eq_skeleton]; unfold cc1__tc_feat_body_skel
  have hc : ¬ Scalar.cmpi .ne (Scalar.extui (Scalar.cmpi .eq (BitVec.ofNat 32 (i 0).val) 0#32) : BitVec 32) 0#32 = 1#1 := by
    have hl : (i 0).val < 256 := (i 0).isLt
    generalize (i 0).val = n at hi hl
    have : (BitVec.ofNat 32 n == 0#32) = false := by
      rw [beq_eq_false_iff_ne]; intro h
      have := congrArg BitVec.toNat h
      simp at this; omega
    show ¬ Scalar.cmpi .ne (Scalar.extui (BitVec.ofBool (BitVec.ofNat 32 n == 0#32)) : BitVec 32) 0#32 = 1#1
    rw [this]; decide
  iintro ⟨H2, H3⟩
  sl_exec
  sl_step
  isplitl [H2]
  · iexists _; isplitr; rotate_left; · iexact H2
    ipureintro
    refine (read_put3 M2.view f2 inb_S1x64x4096_S1x64x4096_0_0_0 _).trans ((pay2_apply _).trans (congrArg patB ?_))
    exact load_whole scrM.view _ inb_S64x4096_S64x4096_0_0
  iexact H3

end Cert.Proof.Slot

end
-- ==== Proof.Region.lean ====
/-
  The feature kernel's region: its proof data, its body's obligation and its result.
-/
module

public import Idealize.ShloMosaic.Lib.Pipeline.ValueKit.Geometry
public import Idealize.ShloMosaic.Lib.Pipeline.RegionsLoop
public import proofs.«01_k».proof.Proof.Feat

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open ValueIdx (ix1 ix2 ix3)
open Pipeline (Dat BodyObligation)

variable (Vl : (c : Dev nD) → (b : Ref sig .tc) → Buf (Elt F) ((T c : Thread nD τ).loc b))

/-- The types the region reads, as one row. -/
def gI (c : Dev nD) : S1x4096.Idx → Elt F .i32 := Vl c main_v10
/-- The table the region reads. -/
def gE (c : Dev nD) : S64x8.Idx → Elt F .f32 := Vl c main_v9
/-- The features of one batch entry. -/
def gP (c : Dev nD) : S64x4096.Idx → Elt F .f32 := pat (gI Vl c) (gE Vl c)

/-- Between two points the scratch buffer holds the pattern, once the first point is past. -/
def Φr (c : Dev nD) (n : ℕ) : sProp (MM F) :=
  iprop(∃ g : Buf (Elt F) (scrM.view.loc (T c)), ⌜n ≠ 0 → scrM.view.read (Elt F) g = gP Vl c⌝ ∗ scrM.view.loc (T c) ↦{fullShare} g)

variable (b : ℕ)

/-- The region's proof data, from the contents `Vl` it is entered with; the waits recorded so far sit at or below level `b`. -/
def dat (c : Dev nD) : Dat τ (Elt F) (HIx 1) ℕ UU ℕ cfg1 c where
  A w := Vl c (Pipeline.arrRef spec1 w)
  after w _ := match w with
    | ⟨0, _⟩ => gI Vl c
    | ⟨1, _⟩ => gE Vl c
    | ⟨2, _⟩ => patB (gP Vl c)
  Φ t := Φr Vl c t.val
  q _ := fullShare
  owed _ := 0
  recorded _ := {p | (K (F := F)).lev (SparseCore.T c, p.1) p.2 ≤ b}

/-- Every point reads the same block of types. -/
theorem index0 : ∀ t : Fin cfg1.N, win1_0.index t = ![0, 0] := (by decide +kernel : ∀ t : Fin grid1.N, win1_0.index t = ![0, 0])
/-- Every point reads the same block of the table. -/
theorem index1 : ∀ t : Fin cfg1.N, win1_1.index t = ![0, 0] := (by decide +kernel : ∀ t : Fin grid1.N, win1_1.index t = ![0, 0])
/-- Every point writes its own batch entry. -/
theorem index2 : ∀ t : Fin cfg1.N, win1_2.index t = ![t.val, 0, 0] := (by decide +kernel : ∀ t : Fin grid1.N, win1_2.index t = ![t.val, 0, 0])
/-- A point's coordinate is its number. -/
theorem coords_t : ∀ t : Fin cfg1.N, (grid1.coords t 0).val = t.val := (by decide +kernel : ∀ t : Fin grid1.N, (grid1.coords t 0).val = t.val)

/-- The types' window is the whole row at every point. -/
theorem block0 (c : Dev nD) (t : Fin cfg1.N) : (dat Vl b c).blockOf 0 t = gI Vl c := by
  funext y
  have e : (win1_0.blk t).view.emb y = y := by blk_ext [index0]
  exact congrArg (gI Vl c) e

/-- The table's window is the whole table at every point. -/
theorem block1 (c : Dev nD) (t : Fin cfg1.N) : (dat Vl b c).blockOf 1 t = gE Vl c := by
  funext y
  have e : (win1_1.blk t).view.emb y = y := by blk_ext [index1]
  exact congrArg (gE Vl c) e

/-- The body finds the types in its first operand's buffer. -/
theorem before0 (c : Dev nD) (t : Fin cfg1.N) (e) : (dat Vl b c).before 0 t e = gI Vl c :=
  ((dat Vl b c).before_in_eq_fetched 0 rfl (fun _ => rfl) (fun _ _ _ => rfl) (fun t => (block0 Vl b c t).symm) t e).trans (block0 Vl b c t)

/-- The body finds the table in its second operand's buffer. -/
theorem before1 (c : Dev nD) (t : Fin cfg1.N) (e) : (dat Vl b c).before 1 t e = gE Vl c :=
  ((dat Vl b c).before_in_eq_fetched 1 rfl (fun _ => rfl) (fun _ _ _ => rfl) (fun t => (block1 Vl b c t).symm) t e).trans (block1 Vl b c t)

/-- A whole buffer held at what its view reads. -/
theorem owns_isWhole (c : Dev nD) {sp : Space} {s : Shape} {e : EltTy} (M : Memref sig .tc sp s e) (h : M.IsWhole) (X : s.Idx → Elt F e) :
    (owns (c.tc : Thread nD τ) M fullShare X : sProp (MM F))
      = iprop(∃ f : Buf (Elt F) (M.view.loc (SparseCore.T c)), ⌜M.view.read (Elt F) f = X⌝ ∗ (M.view.loc (SparseCore.T c) ↦{fullShare} f)) := by
  unfold owns; rw [h.set_eq_univ]

set_option maxHeartbeats 1000000 in
/-- At every point the body leaves the features of one batch entry in the result's block. -/
theorem body_obligation (c : Dev nD) : BodyObligation (dat Vl b c) (defs₀ (F := F)) 𝒱₀ none Set.univ := fun t => by
  rw [Gen.bigSep_W1, Gen.bigSep_W1]
  simp only [owns_isWhole c _ (hstage1_0 _), owns_isWhole c _ (hstage1_1 _), owns_isWhole c _ (hstage1_2 _)]
  rw [show (dat Vl b c).owesAt none t.succ = (dat Vl b c).owesAt none t.castSucc from rfl,
    show (dat Vl b c).Φ t.castSucc = Φr Vl c t.val from rfl, show (dat Vl b c).Φ t.succ = Φr Vl c (t.val + 1) from rfl]
  unfold Φr
  by_cases ht : t.val = 0
  · iintro ⟨⟨%g, -, HS⟩, HO, ⟨%d0, %f0, %hf0, H0⟩, ⟨%d1, %f1, %hf1, H1⟩, ⟨%d2, %f2, -, H2⟩⟩
    rw [before0 Vl b] at hf0
    rw [before1 Vl b] at hf1
    iapply ((body_first (F := F) c (grid1.coords t) _ (hstage1_0 ((cfg1.slots t 0).cast nbuf1_0)) _ (hstage1_1 ((cfg1.slots t 1).cast nbuf1_1)) _ (hstage1_2 ((cfg1.slots t 2).cast nbuf1_2))
      f0 f1 f2 g ((coords_t t).trans ht)).trans (wp_wand frame (wpE (defs₀ (F := F)) 𝒱₀ (SparseCore.T c) none) Set.univ)) $$ [H0 H1 H2 HS]
    · isplitl [H0]; · iexact H0
      isplitl [H1]; · iexact H1
      isplitl [H2]; · iexact H2
      iexact HS
    iintro %_ ⟨H0, H1, ⟨%g2, %h2, H2⟩, ⟨%g3, %h3, HS⟩⟩
    have e2 : pat (F := F) ((stage1_0 (cfg1.slots t 0)).view.read (Elt F) f0) ((stage1_1 (cfg1.slots t 1)).view.read (Elt F) f1) = gP Vl c := by
      rw [hf0, hf1]; rfl
    replace h2 := h2.trans (congrArg patB e2)
    replace h3 := h3.trans e2
    isplitl [HS]
    · iexists g3; isplitr; rotate_left; · iexact HS
      ipureintro; exact fun _ => h3
    isplitl [HO]; · iexact HO
    isplitl [H0]
    · iexists f0; isplitr; rotate_left; · iexact H0
      ipureintro; exact hf0
    isplitl [H1]
    · iexists f1; isplitr; rotate_left; · iexact H1
      ipureintro; exact hf1
    iexists g2; isplitr; rotate_left; · iexact H2
    ipureintro; exact h2
  · iintro ⟨⟨%g, %hg, HS⟩, HO, ⟨%d0, %f0, %hf0, H0⟩, ⟨%d1, %f1, %hf1, H1⟩, ⟨%d2, %f2, -, H2⟩⟩
    rw [before0 Vl b] at hf0
    rw [before1 Vl b] at hf1
    iapply ((body_next (F := F) c (grid1.coords t) _ (hstage1_0 ((cfg1.slots t 0).cast nbuf1_0)) _ (hstage1_1 ((cfg1.slots t 1).cast nbuf1_1)) _ (hstage1_2 ((cfg1.slots t 2).cast nbuf1_2))
      f2 g (fun h => ht ((coords_t t).symm.trans h))).trans (wp_wand frame (wpE (defs₀ (F := F)) 𝒱₀ (SparseCore.T c) none) Set.univ)) $$ [H2 HS]
    · isplitl [H2]; · iexact H2
      iexact HS
    iintro %_ ⟨⟨%g2, %h2, H2⟩, HS⟩
    rw [hg ht] at h2
    isplitl [HS]
    · iexists g; isplitr; rotate_left; · iexact HS
      ipureintro; exact fun _ => hg ht
    isplitl [HO]; · iexact HO
    isplitl [H0]
    · iexists f0; isplitr; rotate_left; · iexact H0
      ipureintro; exact hf0
    isplitl [H1]
    · iexists f1; isplitr; rotate_left; · iexact H1
      ipureintro; exact hf1
    iexists g2; isplitr; rotate_left; · iexact H2
    ipureintro; exact h2

/-- The features of every batch entry. -/
def featV (c : Dev nD) (y : S256x64x4096.Idx) : Elt F .f32 := gP Vl c (ix2 (y 1) (y 2))

/-- The result's array after the region. -/
theorem final (c : Dev nD) : (dat Vl b c).arrAt 2 cfg1.N = featV Vl c := by
  refine (dat Vl b c).arrAt_eq_of_covers 2 _ (by decide +kernel) fun t _ y => ?_
  have e : (win1_2.blk t).view.emb y = ix3 (t.cast Gen.N_1) (y 1) (y 2) := by blk_ext [index2]; rfl
  exact (congrArg (featV Vl c) e).symm

/-! ## The region over the thread's state -/

variable (adm : (p : Fin 1) → (pcfgs (F := F) p).Adm)

/-- The proof data of the program's one region. -/
def pdats : (p : Fin 1) → (c : Dev nD) → Dat τ (Elt F) (HIx 1) ℕ UU ℕ (Pipeline.pin (pcfgs (F := F)) adm p) c
  | 0 => fun c => dat Vl b c

variable (Vp : (c : Dev nD) → (b : Ref sig .tc) → Buf (Elt F) ((SparseCore.T c : Thread nD τ).loc b))

set_option backward.isDefEq.respectTransparency.types false in
/-- The region at one entry: the unscoped buffers at `Vl` before it and at `Vp` after it, where `Vp` has the features in the
    result's array and agrees with `Vl` elsewhere; `R` stands by. -/
def reg (R : Dev nD → sProp (MM F)) (hVp_out : ∀ c, Vp c main_v11 = featV Vl c)
    (hVp_ne : ∀ c (r : Ref sig .tc), r ≠ main_v11 → Vp c r = Vl c r) :
    Pipeline.RegionSeg (pcfgs (F := F)) adm (pdats Vl b adm) none defs₀ 𝒱₀ (K (F := F)).L (K (F := F)).lev 0 where
  win := (Gen.launch1).win.to₀
  block_pos := (Gen.launch1).block_pos
  stage_whole := (Gen.launch1).stage_whole
  K := PEmpty
  osem k := k.elim
  ho := Pipeline.OwnSemFacts.none _
  hbody c := (body_obligation Vl b c).loose
  hwaits := Pipeline.hwaits_of_owed_zero _ _ _ _ (K (F := F)).L (K (F := F)).lev 0 fun _ _ => rfl
  pre c := iprop(unscopedBufs c (Vl c) ∗ R c ∗ ∃ W, ⌜(K (F := F)).WBelow (SparseCore.T c) W b⌝ ∗ owes (SparseCore.T c : Thread nD τ) (0 : CellTallies nD τ sig (HIx 1)) W)
  post c := iprop(unscopedBufs c (Vp c) ∗ R c ∗ ∃ W, ⌜(K (F := F)).WBelow (SparseCore.T c) W b⌝ ∗ owes (SparseCore.T c : Thread nD τ) (0 : CellTallies nD τ sig (HIx 1)) W)
  X _ := BI.emp
  Y _ := BI.emp
  Z c := iprop(Pipeline.unscopedRest (Ix := HIx 1) (Name := ℕ) (U := UU) (Lvl := ℕ) spec1 c (Vl c) ∗ R c)
  hentry c := by
    rw [Pipeline.ownSems0_none]
    have hsplit := Pipeline.arrays_of_unscopedBufs (p := 0) (pcfgs (F := F)) adm (pdats Vl b adm) Gen.launch1.win Gen.launch1.arr_whole c
      ((pdats Vl b adm 0 c).share_full fun _ => rfl) (Vl c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest]; · iexact Hrest
    iexact HR
  hin c := by
    rw [show (pdats Vl b adm 0 c).Φ 0 = Φr Vl c 0 from rfl]
    iintro ⟨-, -, Hr⟩
    ihave H := (Entails.of_eq (Gen.scopedRest1_eq (Ix := HIx 1) (Val := Elt F) (Name := ℕ) (U := UU) (Lvl := ℕ) c)) $$ Hr
    icases H with ⟨%g, H⟩
    unfold Φr
    iexists g; isplitr; · ipureintro; exact fun h => absurd rfl h
    iexact H
  hout c := by
    rw [Pipeline.ownSems0_none, show (pdats Vl b adm 0 c).Φ (Fin.last _) = Φr Vl c cfg1.N from rfl]
    unfold Φr
    iintro ⟨%g, -, H⟩
    isplitr; · iempintro
    isplitr; · iempintro
    iapply (Entails.of_eq (Gen.scopedRest1_eq (Ix := HIx 1) (Val := Elt F) (Name := ℕ) (U := UU) (Lvl := ℕ) c).symm)
    iexists g; iexact H
  hexit c := by
    have hjoin := Pipeline.unscopedBufs_of_arrays (p := 0) (pcfgs (F := F)) adm (Ix := HIx 1) (Name := ℕ) (U := UU) (Lvl := ℕ) Gen.launch1.win Gen.launch1.arr_whole c
      (pdats Vl b adm) ((pdats Vl b adm 0 c).share_full fun _ => rfl) (Vl c) (Vp c) ((pdats Vl b adm 0 c).arrAt · cfg1.N)
      (fun w => by
        fin_cases w
        · exact ((pdats Vl b adm 0 c).arrAt_in 0 rfl _).trans (hVp_ne c main_v10 (by decide)).symm
        · exact ((pdats Vl b adm 0 c).arrAt_in 1 rfl _).trans (hVp_ne c main_v9 (by decide)).symm
        · exact (final Vl b c).trans (hVp_out c).symm)
      (fun b hb => hVp_ne c b fun h => hb (h ▸ Finset.mem_image.mpr ⟨2, Finset.mem_univ _, rfl⟩))
    iintro ⟨Ha, HO, -, Hrest, HR⟩
    imodintro
    isplitl [Ha Hrest]
    · iapply hjoin; isplitl [Ha]
      · iexact Ha
      iexact Hrest
    isplitl [HR]; · iexact HR
    unfold Pipeline.Dat.owesAt Pipeline.owesWithin
    icases HO with ⟨%W, %hW, HO⟩; iexists W; isplitr
    · ipureintro
      intro p hp
      rcases hW hp with h | h
      · exact h
      · obtain ⟨w, s, rfl⟩ := h
        exact Nat.zero_le _
    iexact HO

end Cert.Proof.Slot

end
-- ==== Proof.Host.lean ====
/-
  The host operations of the program, and what the buffers hold between them.
-/
module

public import Idealize.ShloMosaic.Lib.StableHlo.Run
public import Idealize.ShloMosaic.Lib.SparseCore.Quiescent
public import proofs.«01_k».proof.Proof.Region

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
open Idealize.ShloMosaic.StableHlo (seq held)

/-- The operations before the SparseCore call. -/
def opsA : List (HloOp τ sig (Elt F)) :=
  [StableHlo.unary main_arg0 main_v0 ((transpose S256x64x4096 [0, 2, 1] · transposes_S256x4096x64_S256x64x4096_0_2_1) : (⟨S256x4096x64, .f32⟩ : BufTy).Contents (Elt F) → (⟨S256x64x4096, .f32⟩ : BufTy).Contents (Elt F)),
   StableHlo.unary main_arg1 main_v1 ((transpose S64x3 [1, 0] · transposes_S3x64_S64x3_1_0) : (⟨S3x64, .f32⟩ : BufTy).Contents (Elt F) → (⟨S64x3, .f32⟩ : BufTy).Contents (Elt F)),
   StableHlo.unary main_v1 main_v2 (broadcastInDim S64x3x1 ![0, 1] bcast_S64x3_S64x3x1_0_1 : (⟨S64x3, .f32⟩ : BufTy).Contents (Elt F) → (⟨S64x3x1, .f32⟩ : BufTy).Contents (Elt F)),
   StableHlo.unary main_v2 main_v3 (broadcastInDim S64x3x1x16 ![0, 1, 2] bcast_S64x3x1_S64x3x1x16_0_1_2 : (⟨S64x3x1, .f32⟩ : BufTy).Contents (Elt F) → (⟨S64x3x1x16, .f32⟩ : BufTy).Contents (Elt F)),
   StableHlo.reshape main_v3 main_v4 (rfl : (.f32 : EltTy) = .f32) shapeCasts_S64x3x1x16_S64x3x16,
   StableHlo.reshape main_v4 main_v5 (rfl : (.f32 : EltTy) = .f32) shapeCasts_S64x3x16_S64x48]

/-- The operations between the two calls. -/
def opsB : List (HloOp τ sig (Elt F)) :=
  [StableHlo.unary main_arg1 main_v7 ((transpose S64x3 [1, 0] · transposes_S3x64_S64x3_1_0) : (⟨S3x64, .f32⟩ : BufTy).Contents (Elt F) → (⟨S64x3, .f32⟩ : BufTy).Contents (Elt F)),
   StableHlo.nullary main_cst (constant S_ .f32 0x00000000#32),
   StableHlo.unary main_cst main_v8 (broadcastInDim S64x5 ![] bcast_S_S64x5 : (⟨S_, .f32⟩ : BufTy).Contents (Elt F) → (⟨S64x5, .f32⟩ : BufTy).Contents (Elt F)),
   StableHlo.binary main_v7 main_v8 main_v9 ((fun a b => concatenate S64x8 1 [⟨S64x3, a⟩, ⟨S64x5, b⟩] concatenates_S64x3_S64x5_S64x8_d1) : (⟨S64x3, .f32⟩ : BufTy).Contents (Elt F) → (⟨S64x5, .f32⟩ : BufTy).Contents (Elt F) → (⟨S64x8, .f32⟩ : BufTy).Contents (Elt F)),
   StableHlo.reshape main_arg2 main_v10 (rfl : (.i32 : EltTy) = .i32) shapeCasts_S4096_S1x4096]

/-- The operations after the TensorCore call. -/
def opsC : List (HloOp τ sig (Elt F)) :=
  [StableHlo.unary main_arg2 main_v12 (broadcastInDim S1x4096 ![1] bcast_S4096_S1x4096_1 : (⟨S4096, .i32⟩ : BufTy).Contents (Elt F) → (⟨S1x4096, .i32⟩ : BufTy).Contents (Elt F)),
   StableHlo.unary main_v12 main_v13 (broadcastInDim S256x4096 ![0, 1] bcast_S1x4096_S256x4096_0_1 : (⟨S1x4096, .i32⟩ : BufTy).Contents (Elt F) → (⟨S256x4096, .i32⟩ : BufTy).Contents (Elt F)),
   StableHlo.nullary main_c (constantI S_ 1 1#1),
   StableHlo.unary main_c main_v14 (broadcastInDim S256x4096 ![] bcast_S_S256x4096 : (⟨S_, .i1⟩ : BufTy).Contents (Elt F) → (⟨S256x4096, .i1⟩ : BufTy).Contents (Elt F)),
   StableHlo.unary main_v6_0 main_v15 ((transpose S256x4096x64 [0, 2, 1] · transposes_S256x64x4096_S256x4096x64_0_2_1) : (⟨S256x64x4096, .f32⟩ : BufTy).Contents (Elt F) → (⟨S256x4096x64, .f32⟩ : BufTy).Contents (Elt F)),
   StableHlo.unary main_v6_1 main_v16 ((transpose S256x4096x64 [0, 2, 1] · transposes_S256x64x4096_S256x4096x64_0_2_1) : (⟨S256x64x4096, .f32⟩ : BufTy).Contents (Elt F) → (⟨S256x4096x64, .f32⟩ : BufTy).Contents (Elt F)),
   StableHlo.unary main_v11 main_v17 ((transpose S256x4096x64 [0, 2, 1] · transposes_S256x64x4096_S256x4096x64_0_2_1) : (⟨S256x64x4096, .f32⟩ : BufTy).Contents (Elt F) → (⟨S256x4096x64, .f32⟩ : BufTy).Contents (Elt F))]

set_option maxRecDepth 8192 in
/-- The program is three lines of host operations around its two calls. -/
theorem main_eq (d : Dev nD) : main (F := F) d
    = (seq opsA >>= fun _ => ((K (F := F)).run d 0 >>= fun _ => seq opsB >>= fun _ =>
        (SparseCore.liftProg (Prog.lift (.customCall (Pipeline.entry 0) ())) >>= fun _ => seq opsC >>= fun _ => pure ⟨⟩))) := by
  simp only [opsA, opsB, opsC, seq, bind_assoc, pure_bind]
  rfl

/-- The unscoped buffers of a TensorCore. -/
def ucs : Finset (DevRef τ sig) := (StableHlo.tcRefs τ sig).filter fun b => ¬ b.isScoped

omit [FloatOps F] in
/-- They are what the launch hands over. -/
theorem unscoped_held (d : Dev nD) (W : Valuation τ sig (Elt F)) :
    (unscopedBufs d (fun b => W (Proc.devRef .tc b)) : sProp (MM F)) = held (T d : Thread nD τ) ucs W := by
  unfold unscopedBufs held ucs StableHlo.tcRefs
  rw [Finset.filter_map, bigSep_map]; rfl

/-- The first operations touch only unscoped buffers. -/
theorem hsA : ∀ op ∈ (opsA (F := F)), op.bufs ⊆ ucs := by
  unfold opsA
  simp only [List.forall_mem_cons, List.not_mem_nil, false_imp_iff, implies_true, and_true]
  refine ⟨?_, ?_, ?_, ?_, ?_, ?_⟩ <;> simp only [StableHlo.unary_bufs, StableHlo.binary_bufs, StableHlo.nullary_bufs, StableHlo.reshape_bufs] <;> decide
/-- The second operations touch only unscoped buffers. -/
theorem hsB : ∀ op ∈ (opsB (F := F)), op.bufs ⊆ ucs := by
  unfold opsB
  simp only [List.forall_mem_cons, List.not_mem_nil, false_imp_iff, implies_true, and_true]
  refine ⟨?_, ?_, ?_, ?_, ?_⟩ <;> simp only [StableHlo.unary_bufs, StableHlo.binary_bufs, StableHlo.nullary_bufs, StableHlo.reshape_bufs] <;> decide
/-- The last operations touch only unscoped buffers. -/
theorem hsC : ∀ op ∈ (opsC (F := F)), op.bufs ⊆ ucs := by
  unfold opsC
  simp only [List.forall_mem_cons, List.not_mem_nil, false_imp_iff, implies_true, and_true]
  refine ⟨?_, ?_, ?_, ?_, ?_, ?_, ?_⟩ <;> simp only [StableHlo.unary_bufs, StableHlo.binary_bufs, StableHlo.nullary_bufs, StableHlo.reshape_bufs] <;> decide
/-- The first operations make no buffer fresh. -/
theorem hfA : ∀ op ∈ (opsA (F := F)), op.fresh = ∅ := List.forall_iff_forall_mem.mp (StableHlo.forall_fresh_of_map rfl)
/-- The second operations make no buffer fresh. -/
theorem hfB : ∀ op ∈ (opsB (F := F)), op.fresh = ∅ := List.forall_iff_forall_mem.mp (StableHlo.forall_fresh_of_map rfl)
/-- The last operations make no buffer fresh. -/
theorem hfC : ∀ op ∈ (opsC (F := F)), op.fresh = ∅ := List.forall_iff_forall_mem.mp (StableHlo.forall_fresh_of_map rfl)

variable (m : (ℓ : Loc nD τ sig) → Buf (Elt F) ℓ)

/-- The buffers at launch. -/
def W0 (d : Dev nD) : Valuation τ sig (Elt F) := fun b => m (d, b)
/-- The buffers when the SparseCore call starts. -/
def W1 (d : Dev nD) : Valuation τ sig (Elt F) := StableHlo.after opsA (W0 m d)
/-- The slots, transposed. -/
def vx (d : Dev nD) : S256x64x4096.Idx → Elt F .f32 := W1 m d (Proc.devRef .tc main_v0)
/-- The table, each entry sixteen times over. -/
def ve (d : Dev nD) : S64x48.Idx → Elt F .f32 := W1 m d (Proc.devRef .tc main_v5)
/-- The types. -/
def vi (d : Dev nD) : S4096.Idx → Elt F .i32 := W1 m d (Proc.devRef .tc main_arg2)
/-- What the copy's array holds before the call. -/
def fc (d : Dev nD) : S256x64x4096.Idx → Elt F .f32 := W1 m d (Proc.devRef .tc main_v6_0)
/-- What the sum's array holds before the call. -/
def ft (d : Dev nD) : S256x64x4096.Idx → Elt F .f32 := W1 m d (Proc.devRef .tc main_v6_1)
/-- The buffers after the SparseCore call: the copy and the sum in place. -/
def W2 (d : Dev nD) : Valuation τ sig (Elt F) :=
  Function.update (Function.update (W1 m d) (Proc.devRef .tc main_v6_0) (vx m d)) (Proc.devRef .tc main_v6_1) (tyV (vx m d) (ve m d) (vi m d))
/-- The buffers when the TensorCore call starts. -/
def W3 (d : Dev nD) : Valuation τ sig (Elt F) := StableHlo.after opsB (W2 m d)
/-- The same, by the TensorCore's references. -/
def Vl (c : Dev nD) (b : Ref sig .tc) : Buf (Elt F) ((T c : Thread nD τ).loc b) := W3 m c (Proc.devRef .tc b)
/-- The buffers after the TensorCore call: the features in place. -/
def W4 (d : Dev nD) : Valuation τ sig (Elt F) := Function.update (W3 m d) (Proc.devRef .tc main_v11) (featV (Vl m) d)
/-- The same, by the TensorCore's references. -/
def Vp (c : Dev nD) (b : Ref sig .tc) : Buf (Elt F) ((T c : Thread nD τ).loc b) := W4 m c (Proc.devRef .tc b)
/-- The buffers at the end. -/
def W5 (d : Dev nD) : Valuation τ sig (Elt F) := StableHlo.after opsC (W4 m d)

/-- After the TensorCore call its result holds the features. -/
theorem Vp_out (c : Dev nD) : Vp m c main_v11 = featV (Vl m) c := by
  unfold Vp W4; exact Function.update_self (Proc.devRef .tc main_v11 : DevRef τ sig) _ (W3 m c)
/-- The TensorCore call changes no other buffer. -/
theorem Vp_ne (c : Dev nD) (r : Ref sig .tc) (h : r ≠ main_v11) : Vp m c r = Vl m c r :=
  Function.update_of_ne (StableHlo.devRef_ne_of_ne h) _ _

/-- The five arrays of the SparseCore call. -/
def five : Finset (DevRef τ sig) := {Proc.devRef .tc main_v0, Proc.devRef .tc main_v5, Proc.devRef .tc main_arg2, Proc.devRef .tc main_v6_0, Proc.devRef .tc main_v6_1}
/-- The SparseCore call's arrays are unscoped. -/
theorem five_sub : five ⊆ ucs := by decide

omit [FloatOps F] in
/-- The five arrays taken out of the unscoped buffers. -/
theorem held_five (d : Dev nD) (W : Valuation τ sig (Elt F)) : (held (T d : Thread nD τ) ucs W : sProp (MM F))
    = iprop(((xLoc d ↦{fullShare} W (Proc.devRef .tc main_v0)) ∗ (eLoc d ↦{fullShare} W (Proc.devRef .tc main_v5)) ∗ (iLoc d ↦{fullShare} W (Proc.devRef .tc main_arg2)) ∗ (cLoc d ↦{fullShare} W (Proc.devRef .tc main_v6_0)) ∗ (tLoc d ↦{fullShare} W (Proc.devRef .tc main_v6_1)))
        ∗ held (T d : Thread nD τ) (ucs \ five) W) := by
  rw [StableHlo.held_sub_split _ five_sub]
  congr 1
  unfold held five
  rw [SparseCore.bigSep_insert' (by decide), SparseCore.bigSep_insert' (by decide), SparseCore.bigSep_insert' (by decide), SparseCore.bigSep_insert' (by decide), bigSep_singleton]

/-- The SparseCore call changes nothing but the copy and the sum. -/
theorem held_rest (d : Dev nD) : (held (T d : Thread nD τ) (ucs \ five) (W2 m d) : sProp (MM F)) = held (T d : Thread nD τ) (ucs \ five) (W1 m d) := by
  refine StableHlo.held_congr _ fun b hb => ?_
  have hb' := (Finset.mem_sdiff.mp hb).2
  unfold W2
  rw [Function.update_of_ne, Function.update_of_ne]
  · rintro rfl; exact hb' (by decide)
  · rintro rfl; exact hb' (by decide)

/-- The SparseCore call leaves the turned slots. -/
theorem W2_v0 (d : Dev nD) : W2 m d (Proc.devRef .tc main_v0) = vx m d := by
  unfold W2; rw [Function.update_of_ne (by decide), Function.update_of_ne (by decide)]; rfl
/-- The SparseCore call leaves the spread table. -/
theorem W2_v5 (d : Dev nD) : W2 m d (Proc.devRef .tc main_v5) = ve m d := by
  unfold W2; rw [Function.update_of_ne (by decide), Function.update_of_ne (by decide)]; rfl
/-- The SparseCore call leaves the types. -/
theorem W2_arg2 (d : Dev nD) : W2 m d (Proc.devRef .tc main_arg2) = vi m d := by
  unfold W2; rw [Function.update_of_ne (by decide), Function.update_of_ne (by decide)]; rfl
/-- After the SparseCore call the copy is the turned slots. -/
theorem W2_v6_0 (d : Dev nD) : W2 m d (Proc.devRef .tc main_v6_0) = vx m d := by
  unfold W2; rw [Function.update_of_ne (by decide), Function.update_self]
/-- After the SparseCore call the sum is in place. -/
theorem W2_v6_1 (d : Dev nD) : W2 m d (Proc.devRef .tc main_v6_1) = tyV (vx m d) (ve m d) (vi m d) := by
  unfold W2; rw [Function.update_self]

/-- The call's five arrays as it leaves them, and the rest, are the buffers after it. -/
theorem held_back (d : Dev nD) : iprop(((xLoc d ↦{fullShare} vx m d) ∗ (eLoc d ↦{fullShare} ve m d) ∗ (iLoc d ↦{fullShare} vi m d) ∗ (cLoc d ↦{fullShare} vx m d) ∗ (tLoc d ↦{fullShare} tyV (vx m d) (ve m d) (vi m d)))
        ∗ held (T d : Thread nD τ) (ucs \ five) (W1 m d)) = (held (T d : Thread nD τ) ucs (W2 m d) : sProp (MM F)) := by
  rw [held_five, held_rest, W2_v0, W2_v5, W2_arg2, W2_v6_0, W2_v6_1]

end Cert.Proof.Slot

end
-- ==== Proof.Launch.lean ====
/-
  The program on the TensorCore and the launch.
-/
module

public import proofs.«01_k».proof.Proof.Host

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
open Idealize.ShloMosaic.StableHlo (seq held)

variable (m : (ℓ : Loc nD τ sig) → Buf (Elt F) ℓ) (ρ : Dev nD → PrngReg)

/-- The one choice of tables the TensorCore pipeline has. -/
def adm : (p : Fin 1) → (pcfgs (F := F) p).Adm := fun p => (cfgs p).toPCfg_adm (Val := Elt F)

/-- What the handshakes carry, from the launch contents. -/
abbrev Pm : (K (F := F)).Pay (nD := nD) (Val := Elt F) (Name := ℕ) (U := UU) := P (vx m) (fc m) (ft m) (ve m) (vi m)

/-- The pipeline's share of the launch ghost, for one device. -/
def G (d : Dev nD) : sProp (MM F) :=
  iprop(Pipeline.cellsGhost (Pipeline.pin (pcfgs (F := F)) adm) EP 0 d ∗ Pipeline.toksInit (Pipeline.pin (pcfgs (F := F)) adm) EP 0 d)

/-- The launch element of the ghost state. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
/-- Nothing, once for every member of a set, is nothing. -/
theorem bigSep_nothing {I : Type} (s : Finset I) : (bigSep s fun _ => iprop(emp)) = (iprop(emp) : sProp (MM F)) := bigSep_emp_const s

/-- The starting ghost state splits into the launch's parts. -/
theorem hu₀ : (ownU (u₀ (F := F)) : sProp (MM F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (Pm m).x q thr) := by
  unfold u₀
  iintro Hu
  ihave H := (ownU_pair (initOf (K (F := F)).hsCells (K (F := F)).hsToks) _) $$ Hu
  icases H with ⟨HH, HP⟩
  ihave H := (own_pair_emb (embR : Emb (UP × Counters) (MM F)) _ (1 : Counters)) $$ HP
  icases H with ⟨HP, -⟩
  ihave HP := (Entails.of_eq (show (BI.own (((Emb.inl : Emb UP (UP × Counters)).trans (embR : Emb (UP × Counters) (MM F)))
      (initOf (Pipeline.cells (Pipeline.pin (pcfgs (F := F)) adm) cellOf_inj) (Pipeline.launchToks (Pipeline.pin (pcfgs (F := F)) adm) cellOf_inj))) : sProp (MM F))
    = BI.own (EP (initOf (Pipeline.cells (Pipeline.pin (pcfgs (F := F)) adm) cellOf_inj) (Pipeline.launchToks (Pipeline.pin (pcfgs (F := F)) adm) cellOf_inj))) from rfl)) $$ HP
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_nothing]
  iempintro

/-- The rest of the TensorCore's handshake state once the call is over. -/
def tcRest (d : Dev nD) : sProp (MM F) :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (q)) 1)))
/-- The level the waits of the call sit at or below. -/
def lvl : ℕ := 8 * 1
/-- What a TensorCore holds of the launch after the SparseCore call, spelt out. -/
theorem tcSt_one (d : Dev nD) : ((K (F := F)).tcSt EH d 1 : sProp (MM F))
    = iprop((∃ W, ⌜(K (F := F)).WBelow (SparseCore.T d) W lvl⌝ ∗ owes (SparseCore.T d : Thread nD τ) (0 : CellTallies nD τ sig (HIx 1)) W) ∗ tcRest d) := by
  unfold SparseCore.Cfg.tcSt tcRest lvl
  rw [SparseCore.Cfg.Otc_end _ _ le_rfl]
  rfl

/-- What the program leaves the claim: every unscoped buffer at its end contents. -/
abbrev FIN (d : Dev nD) : sProp (MM F) := held (SparseCore.T d : Thread nD τ) ucs (W5 m d)

/-- The TensorCore's program on a device. -/
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_eq, show (unscopedBufs d (fun b => m ((SparseCore.T d : Thread nD τ).loc b)) : sProp (MM F)) = held (SparseCore.T d : Thread nD τ) ucs (W0 m d) from unscoped_held d (W0 m d)]
  iintro ⟨#Hctx, Hst, ⟨Hb, Hh, Hts, -⟩, Hg, Ht⟩
  iapply (StableHlo.wp_seq 𝒱 none Set.univ d ucs _ opsA hsA hfA (W0 m d)) $$ [Hb Hh]
  · isplitl [Hb]; · iexact Hb
    iexact Hh
  iintro ⟨Hb, Hh⟩
  ihave Hh := (Entails.of_eq (show (held (d.tc : Thread nD τ) ucs (StableHlo.after opsA (W0 m d)) : sProp (MM F)) = _ from held_five (F := F) d (W1 m d))) $$ Hh
  icases Hh with ⟨H5, Hr⟩
  rw [wp_bind]
  iapply ((K (F := F)).wp_run (D (F := F)) 𝒱 (EH := EH) (P := Pm m) κ d 0) $$ [Hst H5 Hr Hb Hts Hg Ht]
  isplitr; · iexact Hctx
  isplitl [Hst]; · iexact Hst
  isplitl [H5]
  · rw [st0_eq]; iexact H5
  iintro ⟨Hst, Hdn⟩
  ihave Hdn := (Entails.of_eq (dn0_eq d (vx m) (fc m) (ft m) (ve m) (vi m))) $$ Hdn
  ihave Hh := (Entails.of_eq (held_back m d)) $$ [Hdn Hr]
  · isplitl [Hdn]; · iexact Hdn
    iexact Hr
  iapply (StableHlo.wp_seq 𝒱 none Set.univ d ucs _ opsB hsB hfB (W2 m d)) $$ [Hb Hh]
  · isplitl [Hb]; · iexact Hb
    iexact Hh
  iintro ⟨Hb, Hh⟩
  rw [wp_bind]
  iapply ((K (F := F)).wp_liftProg (D (F := F)) 𝒱 (SparseCore.T d) Set.univ none _ _)
  ihave #Hlev := (SparseCore.Cfg.ctx_levAts κ) $$ Hctx
  ihave Hst := (Entails.of_eq (show ((K (F := F)).tcSt EH d ((0 : Fin 1).val + 1) : sProp (MM F)) = _ from tcSt_one (F := F) d)) $$ Hst
  icases Hst with ⟨HO, Hrest⟩
  iapply (Pipeline.RegionSeg.wp (pcfgs (F := F)) adm (pdats (Vl m) lvl adm) none cellOf_inj EP defs₀ 𝒱₀ (K (F := F)).L (K (F := F)).lev
    (reg (Vl m) lvl adm (Vp m) (fun _ => iprop(emp)) (Vp_out m) (Vp_ne m)) d none (fun _ h => nomatch h)) $$ [Hb Hh Hts Hg Ht HO Hrest]
  isplitl [Hts Hrest]
  · iintro ⟨Hb, Hp⟩
    unfold reg
    dsimp only
    icases Hp with ⟨Hub, -, HO⟩
    rw [wp_ret]; imodintro
    ihave Hh := (Entails.of_eq (show (unscopedBufs d (Vp m d) : sProp (MM F)) = held (d.tc : Thread nD τ) ucs (W4 m d) from unscoped_held (F := F) d (W4 m d))) $$ Hub
    iapply (StableHlo.wp_seq 𝒱 none Set.univ d ucs _ opsC hsC hfC (W4 m d)) $$ [Hb Hh]
    · isplitl [Hb]; · iexact Hb
      iexact Hh
    iintro ⟨Hb, Hh⟩
    rw [wp_pure]; imodintro
    isplitl [HO Hrest]
    · iapply (Entails.of_eq (tcSt_one (F := F) d).symm)
      isplitl [HO]; · iexact HO
      iexact Hrest
    isplitl [Hh]; · iexact Hh
    isplitl [Hb]; · iexact Hb
    iexact Hts
  isplitl [Hb]; · iexact Hb
  isplitl [Hh HO]
  · unfold reg
    dsimp only
    isplitl [Hh]
    · iapply (Entails.of_eq (show (held (d.tc : Thread nD τ) ucs (StableHlo.after opsB (W2 m d)) : sProp (MM F)) = unscopedBufs d (Vl m d) from (unscoped_held (F := F) d (W3 m d)).symm)); iexact Hh
    isplitr; · iempintro
    iexact HO
  isplitr; · iexact Hlev
  isplitl [Hg]; · iexact Hg
  iexact Ht

/-- A device's final buffers, as the claim reads them. -/
def fq (d : Dev nD) (s' : Phys nD τ sig (Elt F)) : Prop := ∀ b ∈ ucs, s'.mem.mem (d, b) = W5 m d b
/-- A device's last assertion says what its buffers hold. -/
theorem hfin (d : Dev nD) (s' : Phys nD τ sig (Elt F)) : iprop(FIN m d ∗ SI s') ⊢ (⌜fq m d s'⌝ : sProp (MM F)) := by
  refine (pointsTo_read_all ucs (fun b => ((d, b) : Loc nD τ sig)) (fun b => W5 m d b) s').trans ?_
  iintro ⟨%h, -⟩
  ipureintro; exact h

/-- The final states: every unscoped buffer at its end contents, every counter zero. -/
def QC : PUnit × MemSt nD τ sig (Elt F) → Prop := fun r => (∀ c : Dev nD, ∀ b ∈ ucs, r.2.mem (c, b) = W5 m c b) ∧ r.2.sem = fun _ => 0

/-- The program's run, over any float values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (vx m) (fc m) (ft m) (ve m) (vi m) facts)
    (fun q _ => match q with | 0 => SparseCore.Cfg.VecSplit.of_plain (vecSplit (vx m) (fc m) (ft m) (ve m) (vi m)))
    m ρ main G (FIN m) (u₀ (F := F)) (sep_elim_left.trans (hu₀ m)) (hmain m ρ) (fq m) (hfin m) (QC m) (fun _ h hz => ⟨h, hz⟩)

end Cert.Proof.Slot

end
-- ==== Proof.Values.lean ====
/-
  What the program's results hold at its end, in terms of its arguments.
-/
module

public import Idealize.ShloMosaic.Lib.StableHlo.Run
public import Idealize.ShloMosaic.Lib.Pipeline.Value
public import proofs.«01_k».proof.Proof.Launch

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The feature of a slot: the table's row for the slot's type, by the choice the program makes. -/
def featK (e : S3x64.Idx → Elt F .f32) (i : S4096.Idx → Elt F .i32) (y : S256x4096x64.Idx) : Elt F .f32 :=
  pick (F := F) (i (ix1 (y 1))) (e (ix2 0 (y 2))) (e (ix2 1 (y 2))) (e (ix2 2 (y 2)))

/-- Swapping the last two axes, read at an index: from slots last to features last. -/
theorem swap_apply {α : Type} (x : S256x64x4096.Idx → α) (h : S256x64x4096.Transposes [0, 2, 1] S256x4096x64) (y : S256x4096x64.Idx) :
    transpose S256x4096x64 [0, 2, 1] x h y = x (ix3 (y 0) (y 2) (y 1)) :=
  transpose_apply _ x h y _ fun b => match b with
    | ⟨0, _⟩ => rfl
    | ⟨1, _⟩ => rfl
    | ⟨2, _⟩ => rfl

/-- The same from features last to slots last. -/
theorem swap_apply' {α : Type} (x : S256x4096x64.Idx → α) (h : S256x4096x64.Transposes [0, 2, 1] S256x64x4096) (y : S256x64x4096.Idx) :
    transpose S256x64x4096 [0, 2, 1] x h y = x (ix3 (y 0) (y 2) (y 1)) :=
  transpose_apply _ x h y _ fun b => match b with
    | ⟨0, _⟩ => rfl
    | ⟨1, _⟩ => rfl
    | ⟨2, _⟩ => rfl

/-- The table turned, read at an index. -/
theorem turn_apply {α : Type} (x : S3x64.Idx → α) (h : S3x64.Transposes [1, 0] S64x3) (y : S64x3.Idx) :
    transpose S64x3 [1, 0] x h y = x (ix2 (y 1) (y 0)) :=
  transpose_apply _ x h y _ fun b => match b with
    | ⟨0, _⟩ => rfl
    | ⟨1, _⟩ => rfl

/-- Sixteen copies of each of a row's three entries side by side, read at an index. -/
theorem spread_apply {α : Type} (x : S64x3.Idx → α) (h1 : S64x3.BroadcastsInDim S64x3x1 ![0, 1])
    (h2 : S64x3x1.BroadcastsInDim S64x3x1x16 ![0, 1, 2]) (h3 : S64x3x1x16.ShapeCasts S64x3x16) (h4 : S64x3x16.ShapeCasts S64x48)
    (δ : Fin 64) (t : Fin 3) (σ : Fin 512) :
    shapeCast S64x48 (shapeCast S64x3x16 (broadcastInDim S64x3x1x16 ![0, 1, 2] h2 (broadcastInDim S64x3x1 ![0, 1] h1 x)) h3) h4 (ix2 δ (ecol t σ))
      = x (ix2 δ t) := by
  have hσ : σ.val % 16 < 16 := Nat.mod_lt _ (by decide)
  rw [shapeCast_apply _ h4 _ (ix3 δ t (⟨σ.val % 16, hσ⟩ : Fin 16)) (by
      rw [Shape.rowMajor_val_three, Shape.rowMajor_val_two]
      show (δ.val * 3 + t.val) * 16 + σ.val % 16 = δ.val * 48 + (16 * t.val + σ.val % 16)
      omega),
    shapeCast_apply _ h3 _ (ValueIdx.ix4 δ t (0 : Fin 1) (⟨σ.val % 16, hσ⟩ : Fin 16)) (by
      rw [Shape.rowMajor_val_three, Shape.rowMajor_val_four]
      show ((δ.val * 3 + t.val) * 1 + 0) * 16 + σ.val % 16 = (δ.val * 3 + t.val) * 16 + σ.val % 16
      omega),
    broadcastInDim_apply _ h2 _ _ (ix3 δ t (0 : Fin 1)) (fun a => match a with
      | ⟨0, _⟩ => rfl
      | ⟨1, _⟩ => rfl
      | ⟨2, _⟩ => rfl),
    broadcastInDim_apply _ h1 _ _ (ix2 δ t) (fun a => match a with
      | ⟨0, _⟩ => rfl
      | ⟨1, _⟩ => rfl)]

variable (m : (ℓ : Loc nD τ sig) → Buf (Elt F) ℓ) (d : Dev nD)

/-- The slots' states at launch. -/
def aX : S256x4096x64.Idx → Elt F .f32 := m (d, Proc.devRef .tc main_arg0)
/-- The table at launch. -/
def aE : S3x64.Idx → Elt F .f32 := m (d, Proc.devRef .tc main_arg1)
/-- The slots' types at launch. -/
def aI : S4096.Idx → Elt F .i32 := m (d, Proc.devRef .tc main_arg2)

/-- At the SparseCore call the slots' states are as given. -/
theorem W1_arg0 : W1 m d (Proc.devRef .tc main_arg0) = aX m d := by unfold W1 opsA; after_results; rfl
/-- At the SparseCore call the table is as given. -/
theorem W1_arg1 : W1 m d (Proc.devRef .tc main_arg1) = aE m d := by unfold W1 opsA; after_results; rfl
/-- At the SparseCore call the types are as given. -/
theorem W1_arg2 : W1 m d (Proc.devRef .tc main_arg2) = aI m d := by unfold W1 opsA; after_results; rfl
/-- The turned slots, from the slots. -/
theorem vx_eq : vx m d = transpose S256x64x4096 [0, 2, 1] (aX m d) transposes_S256x4096x64_S256x64x4096_0_2_1 := by
  unfold vx W1 opsA; after_results; rfl
/-- The spread table, from the table. -/
theorem ve_eq : ve m d = shapeCast S64x48 (shapeCast S64x3x16 (broadcastInDim S64x3x1x16 ![0, 1, 2] bcast_S64x3x1_S64x3x1x16_0_1_2
    (broadcastInDim S64x3x1 ![0, 1] bcast_S64x3_S64x3x1_0_1 (transpose S64x3 [1, 0] (aE m d) transposes_S3x64_S64x3_1_0)))
    shapeCasts_S64x3x1x16_S64x3x16) shapeCasts_S64x3x16_S64x48 := by
  unfold ve W1 opsA; after_results; rfl
/-- The types the SparseCores read are those given. -/
theorem vi_eq : vi m d = aI m d := W1_arg2 m d

/-- After the SparseCore call the slots' states are as given. -/
theorem W2_arg0 : W2 m d (Proc.devRef .tc main_arg0) = aX m d := by
  unfold W2; rw [Function.update_of_ne (by decide), Function.update_of_ne (by decide)]; exact W1_arg0 m d
/-- After the SparseCore call the table is as given. -/
theorem W2_arg1 : W2 m d (Proc.devRef .tc main_arg1) = aE m d := by
  unfold W2; rw [Function.update_of_ne (by decide), Function.update_of_ne (by decide)]; exact W1_arg1 m d

/-- At the TensorCore call the slots' states are as given. -/
theorem W3_arg0 : W3 m d (Proc.devRef .tc main_arg0) = aX m d := by unfold W3 opsB; after_results; exact W2_arg0 m d
/-- At the TensorCore call the table is as given. -/
theorem W3_arg1 : W3 m d (Proc.devRef .tc main_arg1) = aE m d := by unfold W3 opsB; after_results; exact W2_arg1 m d
/-- At the TensorCore call the types are as given. -/
theorem W3_arg2 : W3 m d (Proc.devRef .tc main_arg2) = aI m d := by unfold W3 opsB; after_results; exact (W2_arg2 m d).trans (vi_eq m d)
/-- At the TensorCore call the copy is in place. -/
theorem W3_v6_0 : W3 m d (Proc.devRef .tc main_v6_0) = vx m d := by unfold W3 opsB; after_results; exact W2_v6_0 m d
/-- At the TensorCore call the sum is in place. -/
theorem W3_v6_1 : W3 m d (Proc.devRef .tc main_v6_1) = tyV (vx m d) (ve m d) (vi m d) := by unfold W3 opsB; after_results; exact W2_v6_1 m d
/-- The table the TensorCore reads, from the table. -/
theorem W3_v9 : W3 m d (Proc.devRef .tc main_v9) = concatenate S64x8 1 [⟨S64x3, transpose S64x3 [1, 0] (aE m d) transposes_S3x64_S64x3_1_0⟩,
    ⟨S64x5, broadcastInDim S64x5 ![] bcast_S_S64x5 (constant S_ .f32 0x00000000#32)⟩] concatenates_S64x3_S64x5_S64x8_d1 := by
  unfold W3 opsB; after_results; rw [W2_arg1]
/-- The types the TensorCore reads, from the types. -/
theorem W3_v10 : W3 m d (Proc.devRef .tc main_v10) = shapeCast S1x4096 (aI m d) shapeCasts_S4096_S1x4096 := by
  unfold W3 opsB; after_results; rw [W2_arg2, vi_eq]; rfl

/-- The table the TensorCore reads holds, at a feature and a type, the table's entry. -/
theorem gE_apply (δ : Fin 64) (t : Fin 8) (ht : t.val < 3) : gE (Vl m) d (ix2 δ t) = aE m d (ix2 (⟨t.val, ht⟩ : Fin 3) δ) := by
  show W3 m d (Proc.devRef .tc main_v9) (ix2 δ t) = _
  rw [W3_v9, concatenate_pair_apply_left (t := S64x8) (s₁ := S64x3) (s₂ := S64x5) 1 _ _ _ _ rfl (ix2 δ (⟨t.val, ht⟩ : Fin 3)) (fun b => match b with
    | ⟨0, _⟩ => rfl
    | ⟨1, _⟩ => rfl), turn_apply]

/-- The types the TensorCore reads. -/
theorem gI_apply (σ : Fin 4096) : gI (Vl m) d (ix2 0 σ) = aI m d (ix1 σ) := by
  show W3 m d (Proc.devRef .tc main_v10) (ix2 0 σ) = _
  rw [W3_v10, shapeCast_apply _ _ _ (ix1 σ) (by
    rw [Shape.rowMajor_val_one, Shape.rowMajor_val_two]
    show σ.val = 0 * 4096 + σ.val
    omega)]

/-- The features the TensorCore wrote. -/
theorem featV_apply (y : S256x4096x64.Idx) : featV (Vl m) d (ix3 (y 0) (y 2) (y 1)) = featK (aE m d) (aI m d) y := by
  show pick (F := F) (gI (Vl m) d (ix2 0 (y 1))) (gE (Vl m) d (ix2 (y 2) 0)) (gE (Vl m) d (ix2 (y 2) 1)) (gE (Vl m) d (ix2 (y 2) 2)) = _
  rw [gI_apply m d (y 1), gE_apply m d (y 2) 0 (by decide), gE_apply m d (y 2) 1 (by decide), gE_apply m d (y 2) 2 (by decide)]
  rfl

/-- The sums the SparseCores wrote. -/
theorem tyV_apply (y : S256x4096x64.Idx) : tyV (vx m d) (ve m d) (vi m d) (ix3 (y 0) (y 2) (y 1)) = FloatOps.addf (aX m d y) (featK (aE m d) (aI m d) y) := by
  have he (t : Fin 3) (σ : Fin 512) : ve m d (ix2 (y 2) (ecol t σ)) = aE m d (ix2 t (y 2)) := by
    rw [ve_eq, spread_apply _ _ _ _ _ (y 2) t σ, turn_apply]
  have hx : vx m d (ix3 (y 0) (y 2) (y 1)) = aX m d y := by
    rw [vx_eq, swap_apply']; exact congrArg (aX m d) (eq_ix3 y).symm
  unfold tyV featK
  rw [hx, he 0 _, he 1 _, he 2 _, vi_eq]

/-- The TensorCore call changes nothing but the features. -/
theorem W4_ne (r : Ref sig .tc) (h : r ≠ main_v11) : W4 m d (Proc.devRef .tc r) = W3 m d (Proc.devRef .tc r) := Vp_ne m d r h
/-- After the TensorCore call the features are in place. -/
theorem W4_v11 : W4 m d (Proc.devRef .tc main_v11) = featV (Vl m) d := Vp_out m d

/-- At the end the slots' states are as given. -/
theorem W5_arg0 : W5 m d (Proc.devRef .tc main_arg0) = aX m d := by
  unfold W5 opsC; after_results; exact (W4_ne m d main_arg0 (by decide)).trans (W3_arg0 m d)
/-- At the end the table is as given. -/
theorem W5_arg1 : W5 m d (Proc.devRef .tc main_arg1) = aE m d := by
  unfold W5 opsC; after_results; exact (W4_ne m d main_arg1 (by decide)).trans (W3_arg1 m d)
/-- At the end the types are as given. -/
theorem W5_arg2 : W5 m d (Proc.devRef .tc main_arg2) = aI m d := by
  unfold W5 opsC; after_results; exact (W4_ne m d main_arg2 (by decide)).trans (W3_arg2 m d)

/-- The types, once for every batch entry. -/
theorem W5_v13 : W5 m d (Proc.devRef .tc main_v13)
    = broadcastInDim S256x4096 ![0, 1] bcast_S1x4096_S256x4096_0_1 (broadcastInDim S1x4096 ![1] bcast_S4096_S1x4096_1 (aI m d)) := by
  unfold W5 opsC; after_results; rw [W4_ne m d main_arg2 (by decide), W3_arg2]

/-- The mask: one everywhere. -/
theorem W5_v14 : W5 m d (Proc.devRef .tc main_v14) = broadcastInDim S256x4096 ![] bcast_S_S256x4096 (constantI S_ 1 1#1) := by
  unfold W5 opsC; after_results

/-- The copy: the slots' states as given. -/
theorem W5_v15 : W5 m d (Proc.devRef .tc main_v15) = aX m d := by
  unfold W5 opsC; after_results
  rw [W4_ne m d main_v6_0 (by decide), W3_v6_0, vx_eq]
  funext y
  rw [swap_apply, swap_apply']; exact congrArg (aX m d) (eq_ix3 y).symm

/-- The sum: the slots' states with their features added. -/
theorem W5_v16 : W5 m d (Proc.devRef .tc main_v16) = addf (aX m d) (featK (aE m d) (aI m d)) := by
  unfold W5 opsC; after_results
  rw [W4_ne m d main_v6_1 (by decide), W3_v6_1]
  funext y
  rw [swap_apply, tyV_apply]; rfl

/-- The features. -/
theorem W5_v17 : W5 m d (Proc.devRef .tc main_v17) = featK (aE m d) (aI m d) := by
  unfold W5 opsC; after_results
  rw [W4_v11]
  funext y
  rw [swap_apply, featV_apply]

end Cert.Proof.Slot

end
-- ==== Proof.Ref.lean ====
/-
  What the reference's lookup of a feature returns when every type is in the table.
-/
module

public import proofs.«01_k».proof.Proof.Gen.ReferenceIdeal.Run
public import Idealize.ShloMosaic.Lib.Pipeline.Value
public import Idealize.ShloMosaic.Lib.ValueIdxCore
public import Idealize.ShloMosaic.Lib.ReduceAll

@[expose] public section

noncomputable section

namespace Cert.Proof.Look

open Cert.ReferenceIdeal Cert.ReferenceIdeal.Gen
open Idealize.ShloMosaic Idealize.SL.Sem
open Idealize.ShloMosaic.ValueIdx (ix1 ix2 ix3 eq_ix1 eq_ix2 eq_ix3)

variable {F : FTy → Type} [FloatOps F]

/-- The lookup's shape record. -/
abbrev gd : GatherDims S3x64 S256x4096x1 S256x4096x64 := gather_S3x64_S256x4096x1_S256x4096x64_2_0_n_n_0_2_164

/-- The lookup read at an index: the table's row at the start index, clamped into the table. -/
theorem rows_apply {α : Type} (x : S3x64.Idx → α) (idx : IVec S256x4096x1 32) (y : S256x4096x64.Idx) :
    Host.gather gd x idx y = x (ix2 (⟨min (idx (ix3 (y 0) (y 1) (0 : Fin 1))).toInt.toNat 2, by omega⟩ : Fin 3) (y 2)) := by
  unfold Host.gather
  refine congrArg x (funext fun a => Fin.ext ?_)
  show GatherDims.start gd y idx a + GatherDims.batchCoord gd y a + GatherDims.offCoord gd y a = _
  rw [GatherDims.batchCoord_eq_zero _ _ _ List.not_mem_nil, Nat.add_zero]
  match a with
  | ⟨0, _⟩ =>
    have hk : (0 : Fin 2) ∉ GatherDims.sKept gd := by
      rw [GatherDims.mem_sKept]; exact fun h => h.1 (List.mem_singleton.mpr rfl)
    have hs : GatherDims.siIdx gd y ⟨List.idxOf (0 : Fin 2) (GatherDims.startIndexMap gd),
        List.idxOf_lt_length_iff.2 (List.mem_singleton.mpr rfl)⟩ = ix3 (y 0) (y 1) (0 : Fin 1) := by
      funext b; refine Fin.ext ?_
      match b with
      | ⟨0, _⟩ => rfl
      | ⟨1, _⟩ => rfl
      | ⟨2, _⟩ => rfl
    refine (congrArg₂ (· + ·) ?_ (GatherDims.offCoord_eq_zero gd y 0 hk)).trans (Nat.add_zero _)
    unfold GatherDims.start
    exact (dif_pos (show (0 : Fin 2) ∈ GatherDims.startIndexMap gd from List.mem_singleton.mpr rfl)).trans (congrArg (fun j => min (idx j).toInt.toNat 2) hs)
  | ⟨1, _⟩ =>
    have hk : (1 : Fin 2) ∈ GatherDims.sKept gd := by
      rw [GatherDims.mem_sKept]; exact ⟨by decide, fun h => nomatch h⟩
    refine (congrArg₂ (· + ·) (show GatherDims.start gd y idx 1 = 0 from dif_neg (by decide))
      (show GatherDims.offCoord gd y 1 = (y 2).val from ?_)).trans (Nat.zero_add _)
    unfold GatherDims.offCoord
    exact (dif_pos hk).trans rfl

variable (e : S3x64.Idx → Elt F .f32) (i : S4096.Idx → BitVec 32)

/-- The types, once for every batch entry. -/
def ids2 : S256x4096.Idx → BitVec 32 := broadcastInDim S256x4096 ![0, 1] bcast_S1x4096_S256x4096_0_1 (broadcastInDim S1x4096 ![1] bcast_S4096_S1x4096_1 i)
/-- The rows to look up, as a column: a negative type counts from the table's end. -/
def rows : S256x4096x1.Idx → BitVec 32 :=
  broadcastInDim S256x4096x1 ![0, 1] bcast_S256x4096_S256x4096x1_0_1
    (select (cmpi .slt (ids2 i) (broadcastInDim S256x4096 ![] bcast_S_S256x4096 (constantI S_ 32 0#32)))
      (addi (ids2 i) (broadcastInDim S256x4096 ![] bcast_S_S256x4096 (constantI S_ 32 3#32))) (ids2 i))
/-- Whether a row is in the table. -/
def inside : S256x4096x1.Idx → BitVec 1 :=
  andi (cmpi .sge (rows i) (broadcastInDim S256x4096x1 ![] bcast_S_S256x4096x1 (constantI S_ 32 0#32)))
    (cmpi .sle (rows i) (broadcastInDim S256x4096x1 ![0, 1, 2] bcast_S1x1x1_S256x4096x1_0_1_2 (broadcastInDim S1x1x1 ![2] bcast_S1_S1x1x1_2 (constantI S1 32 2#32))))
/-- The reference's features. -/
def taken : S256x4096x64.Idx → Elt F .f32 :=
  select (broadcastInDim S256x4096x64 ![0, 1] bcast_S256x4096_S256x4096x64_0_1
      (Host.reduce IntOp.andi (inside i) (constantI S_ 1 1#1) reducesTo_S256x4096x1_S256x4096_d2 h_S_))
    (Host.gather gd e (rows i))
    (broadcastInDim S256x4096x64 ![] bcast_S_S256x4096x64 (constant S_ .f32 0x7FC00000#32))

omit [FloatOps F] in
/-- A batch entry's types are the slots'. -/
theorem ids2_apply (b : Fin 256) (σ : Fin 4096) : ids2 i (ix2 b σ) = i (ix1 σ) := by
  unfold ids2
  rw [broadcastInDim_apply _ _ _ _ (ix2 (0 : Fin 1) σ) (fun a => match a with
      | ⟨0, _⟩ => rfl
      | ⟨1, _⟩ => rfl),
    broadcastInDim_apply _ _ _ _ (ix1 σ) (fun a => match a with
      | ⟨0, _⟩ => rfl)]

/-- A choice by a condition that holds. -/
theorem select_one {s : Shape} {α : Type} (c : s.Idx → BitVec 1) (a b : s.Idx → α) (y : s.Idx) (h : c y = 1#1) : select c a b y = a y := by
  show Scalar.select (c y) (a y) (b y) = a y
  rw [h]; rfl

/-- A type in the table is not wrapped. -/
theorem word_row (v : BitVec 32) (h : v.toNat < 3) : Scalar.select (IntOp.cmpi .slt v 0#32) (IntOp.addi v 3#32) v = v := by
  have e : IntOp.cmpi .slt v 0#32 = 0#1 := by
    have : v.slt 0#32 = false := by
      simp only [BitVec.slt_eq_decide, decide_eq_false_iff_not, BitVec.toInt_eq_toNat_cond, BitVec.toNat_ofNat, Nat.reducePow, Nat.reduceMod]
      omega
    simp only [IntOp.cmpi, this]; rfl
  rw [e]; rfl

/-- A type in the table passes the test. -/
theorem word_inside (v : BitVec 32) (h : v.toNat < 3) : IntOp.andi (IntOp.cmpi .sge v 0#32) (IntOp.cmpi .sle v 2#32) = 1#1 := by
  have e1 : (0#32).sle v = true := by
    simp only [BitVec.sle_eq_decide, decide_eq_true_eq, BitVec.toInt_eq_toNat_cond, BitVec.toNat_ofNat, Nat.reducePow, Nat.reduceMod]
    omega
  have e2 : v.sle 2#32 = true := by
    simp only [BitVec.sle_eq_decide, decide_eq_true_eq, BitVec.toInt_eq_toNat_cond, BitVec.toNat_ofNat, Nat.reducePow, Nat.reduceMod]
    omega
  simp only [IntOp.cmpi, e1, e2]; rfl

variable (h : ∀ σ : Fin 4096, (i (ix1 σ)).toNat < 3)
include h

omit [FloatOps F] in
/-- The row to look up is the slot's type. -/
theorem rows_val (b : Fin 256) (σ : Fin 4096) (z : Fin 1) : rows i (ix3 b σ z) = i (ix1 σ) := by
  unfold rows
  rw [broadcastInDim_apply _ _ _ _ (ix2 b σ) (fun a => match a with
      | ⟨0, _⟩ => rfl
      | ⟨1, _⟩ => rfl)]
  show Scalar.select (IntOp.cmpi .slt (ids2 i (ix2 b σ)) 0#32) (IntOp.addi (ids2 i (ix2 b σ)) 3#32) (ids2 i (ix2 b σ)) = _
  rw [ids2_apply, word_row _ (h σ)]

omit [FloatOps F] in
/-- Every row to look up is in the table. -/
theorem inside_val (y : S256x4096x1.Idx) : inside i y = 1#1 := by
  obtain ⟨b, σ, z, rfl⟩ : ∃ (b : Fin 256) (σ : Fin 4096) (z : Fin 1), y = ix3 b σ z := ⟨y 0, y 1, y 2, eq_ix3 y⟩
  show IntOp.andi (IntOp.cmpi .sge (rows i (ix3 b σ z)) 0#32) (IntOp.cmpi .sle (rows i (ix3 b σ z)) 2#32) = 1#1
  rw [rows_val i h, word_inside _ (h σ)]

/-- With every type in the table, the reference's feature of a slot is the table's row for the slot's type. -/
theorem taken_apply (y : S256x4096x64.Idx) : taken e i y = e (ix2 (⟨(i (ix1 (y 1))).toNat, h (y 1)⟩ : Fin 3) (y 2)) := by
  have hm : broadcastInDim S256x4096x64 ![0, 1] bcast_S256x4096_S256x4096x64_0_1
      (Host.reduce IntOp.andi (inside i) (constantI S_ 1 1#1) reducesTo_S256x4096x1_S256x4096_d2 h_S_) y = 1#1 := by
    unfold broadcastInDim
    exact Host.reduce_andi_one _ _ _ _ _ rfl (inside_val i h)
  unfold taken
  rw [select_one _ _ _ _ hm, rows_apply]
  have hv := h (y 1)
  refine congrArg e ?_
  refine congrArg (fun t : Fin 3 => (ix2 t (y 2) : S3x64.Idx)) (Fin.ext ?_)
  refine (congrArg (fun v : BitVec 32 => min v.toInt.toNat 2) (rows_val i h (y 0) (y 1) 0)).trans ?_
  show min (i (ix1 (y 1))).toInt.toNat 2 = (i (ix1 (y 1))).toNat
  rw [BitVec.toInt_eq_toNat_cond]
  simp only [Nat.reducePow]
  omega

end Cert.Proof.Look

end
-- ==== Proof.Ends.lean ====
/-
  The claims about the program at its end: its frames, and its results against the reference's.
-/
module

public import proofs.«01_k».proof.Proof.Values
public import proofs.«01_k».proof.Proof.Ref
public import proofs.«01_k».proof.Proof.Gen.Pre_ids_in_range
public import proofs.«01_k».proof.Defs

@[expose] public section

noncomputable section

namespace Cert.Proof.Slot

open Cert.KernelIdeal Cert.KernelIdeal.Gen
open Idealize.ShloMosaic
open Idealize.ShloMosaic.ValueIdx (ix1 ix2 ix3 eq_ix1 eq_ix2 eq_ix3)
open Idealize.ShloMosaic.SparseCore (S V T)
open Idealize.SL Idealize.SL.Sem

variable {F : FTy → Type} [FloatOps F]

/-- The program's run read at its results and arguments, with every counter zero. -/
theorem run_read (m : (ℓ : Loc nD τ sig) → Buf (Elt F) ℓ) (ρ : Dev nD → PrngReg) [∀ e, Nonempty (Elt F e)] :
    θ_run (defs (F := F)) (threads (F := F)) ⟨m, fun _ => 0, ρ⟩ fun r =>
      (∀ c : Dev nD, r.2.mem (c, Proc.devRef .tc main_v15) = aX m c
        ∧ r.2.mem (c, Proc.devRef .tc main_v16) = addf (aX m c) (featK (aE m c) (aI m c))
        ∧ r.2.mem (c, Proc.devRef .tc main_v13)
          = broadcastInDim S256x4096 ![0, 1] bcast_S1x4096_S256x4096_0_1 (broadcastInDim S1x4096 ![1] bcast_S4096_S1x4096_1 (aI m c))
        ∧ r.2.mem (c, Proc.devRef .tc main_v17) = featK (aE m c) (aI m c)
        ∧ r.2.mem (c, Proc.devRef .tc main_v14) = broadcastInDim S256x4096 ![] bcast_S_S256x4096 (constantI S_ 1 1#1)
        ∧ r.2.mem (c, Proc.devRef .tc main_arg0) = aX m c
        ∧ r.2.mem (c, Proc.devRef .tc main_arg1) = aE m c
        ∧ r.2.mem (c, Proc.devRef .tc main_arg2) = aI m c) ∧ r.2.sem = fun _ => 0 :=
  (θ_run defs _ _).mono (fun _ h => ⟨fun c =>
    ⟨(h.1 c _ (by decide)).trans (W5_v15 m c), (h.1 c _ (by decide)).trans (W5_v16 m c), (h.1 c _ (by decide)).trans (W5_v13 m c),
      (h.1 c _ (by decide)).trans (W5_v17 m c), (h.1 c _ (by decide)).trans (W5_v14 m c), (h.1 c _ (by decide)).trans (W5_arg0 m c),
      (h.1 c _ (by decide)).trans (W5_arg1 m c), (h.1 c _ (by decide)).trans (W5_arg2 m c)⟩, h.2⟩) (run_main m ρ)

/-- The idealized program keeps its arguments and its counters. -/
theorem frame_ideal : Cert.quiescent_KernelIdeal := fun m ρ _ =>
  (θ_run defs _ _).mono (fun _ h => ⟨fun c => (h.1 c).2.2.2.2.2, h.2⟩) (run_read (F := Ideal) m ρ)

/-- The same from types in the table. -/
theorem frame_ideal_pre : Cert.quiescent_KernelIdeal_pre_ids_in_range := fun m ρ _ => frame_ideal m ρ trivial

/-- The reference keeps its arguments, and declares no counter. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The same from types in the table. -/
theorem frame_reference_pre : Cert.quiescent_ReferenceIdeal_pre_ids_in_range := fun m ρ _ => frame_reference m ρ trivial

/-- A word at least zero and below three, both read signed, is below three. -/
theorem word_lt (v : BitVec 32) (e : IntOp.andi (IntOp.cmpi .sge v 0#32) (IntOp.cmpi .slt v 3#32) = 1#1) : v.toNat < 3 := by
  have both (p q : Bool) (h : IntOp.andi (BitVec.ofBool p) (BitVec.ofBool q) = 1#1) : p = true ∧ q = true := by
    cases p <;> cases q <;> first | exact ⟨rfl, rfl⟩ | exact absurd h (by decide)
  obtain ⟨h0, h3⟩ := both _ _ e
  simp only [BitVec.sle_eq_decide, BitVec.slt_eq_decide, decide_eq_true_eq, BitVec.toInt_eq_toNat_cond, BitVec.toNat_ofNat,
    Nat.reducePow, Nat.reduceMod] at h0 h3
  omega

/-- The precondition says that every type is in the table. -/
theorem ids_lt (m : (ℓ : Loc nD τ sig) → Buf (Elt Ideal) ℓ) (h : Cert.Pre_KernelIdeal_ids_in_range m) (c : Dev nD) (σ : Fin 4096) :
    (aI m c (ix1 σ)).toNat < 3 := by
  haveI : Subsingleton Cert.Pre_ids_in_range.S_.Idx := ⟨fun a b => funext fun x => x.elim0⟩
  have e := congrFun (h c) (fun x => x.elim0)
  unfold Cert.Pre_ids_in_range.fn at e
  exact word_lt _ (Host.reduce_andi_all _ _ _ _ _ e (ix1 σ))

/-- With every type in the table, the program's choice is the reference's lookup. -/
theorem feat_eq (e : S3x64.Idx → Elt F .f32) (i : S4096.Idx → BitVec 32) (h : ∀ σ : Fin 4096, (i (ix1 σ)).toNat < 3) :
    featK e i = Look.taken e i := by
  funext y
  rw [Look.taken_apply e i h y]
  have hv := h (y 1)
  unfold featK pick
  by_cases h0 : i (ix1 (y 1)) = 0#32
  · rw [if_pos h0]
    exact congrArg (fun t : Fin 3 => e (ix2 t (y 2))) (Fin.ext (show 0 = (i (ix1 (y 1))).toNat by rw [h0]; rfl))
  rw [if_neg h0]
  by_cases h1 : i (ix1 (y 1)) = 1#32
  · rw [if_pos h1]
    exact congrArg (fun t : Fin 3 => e (ix2 t (y 2))) (Fin.ext (show 1 = (i (ix1 (y 1))).toNat by rw [h1]; rfl))
  rw [if_neg h1]
  refine congrArg (fun t : Fin 3 => e (ix2 t (y 2))) (Fin.ext (show 2 = (i (ix1 (y 1))).toNat from ?_))
  have n0 : (i (ix1 (y 1))).toNat ≠ 0 := fun hh => h0 (BitVec.eq_of_toNat_eq hh)
  have n1 : (i (ix1 (y 1))).toNat ≠ 1 := fun hh => h1 (BitVec.eq_of_toNat_eq hh)
  omega

/-- From equal arguments with every type in the table, the program's five results are the reference's. -/
theorem results : Cert.algebraic_KernelIdeal_ReferenceIdeal_pre_ids_in_range := by
  intro m ρ m' ρ' hpre hag
  refine ⟨fun c => aX m c, fun c => addf (aX m c) (featK (aE m c) (aI m c)),
    fun c => broadcastInDim S256x4096 ![0, 1] bcast_S1x4096_S256x4096_0_1 (broadcastInDim S1x4096 ![1] bcast_S4096_S1x4096_1 (aI m c)),
    fun c => featK (aE m c) (aI m c), fun _ => broadcastInDim S256x4096 ![] bcast_S_S256x4096 (constantI S_ 1 1#1),
    (θ_run defs _ _).mono (fun _ h c => h.1 c) (run_read (F := Ideal) m ρ), ?_⟩
  refine (θ_run Cert.ReferenceIdeal.defs _ _).mono (fun r h c => ?_) (Cert.ReferenceIdeal.Value.run (F := Ideal) m' ρ')
  obtain ⟨h0, h1, h2⟩ := hag c
  obtain ⟨r0, r1, r2, r3, r4, k0, k1, k2⟩ := h c
  have hx : m' ((c.tc : Thread Cert.ReferenceIdeal.nD Cert.ReferenceIdeal.τ).loc Cert.ReferenceIdeal.main_arg0) = aX m c := h0
  have hf : Look.taken (F := Ideal) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = featK (aE m c) (aI m c) := by
    rw [h1, h2]; exact (feat_eq (F := Ideal) (aE m c) (aI m c) (ids_lt m hpre c)).symm
  refine ⟨r0.trans hx, r1.trans ?_, r2.trans ?_, r3.trans hf, r4, k0, k1, k2⟩
  · exact congrArg₂ addf hx hf
  · exact congrArg (fun i => broadcastInDim S256x4096 ![0, 1] bcast_S1x4096_S256x4096_0_1 (broadcastInDim S1x4096 ![1] bcast_S4096_S1x4096_1 i)) h2

end Cert.Proof.Slot

end
-- ==== Proof.lean ====
module

public import proofs.«01_k».proof.Defs
public import proofs.«01_k».proof.Proof.Ends
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_ids_in_range
public import Idealize.ShloMosaic.Adequacy
public import Idealize.ShloMosaic.Init

@[expose] public section

noncomputable section

namespace Cert.Proof

open Idealize.ShloMosaic Idealize.SL.Sem Cert.Kernel

/-- The two programs' kernels are the same, processor by processor. -/
theorem bodies_eq {F : FTy → Type} [FloatOps F] : Cert.Kernel.defs₀ (F := F) = Cert.KernelIdeal.defs₀ (F := F) := by
  funext p ℓ a
  match p, ℓ, a with
  | .scVector c s, 0, _ => rfl
  | .scVector c s, 1, _ => rfl
  | .scScalar c, 0, _ => rfl
  | .scScalar c, 1, _ => rfl
  | .tc, 0, _ => rfl
  | .tc, 1, (t, s) => rfl

/-- So are the tables of everything they call. -/
theorem defs_eq {F : FTy → Type} [FloatOps F] : Cert.Kernel.defs (F := F) = Cert.KernelIdeal.defs (F := F) :=
  congrArg (fun D => Cert.KernelIdeal.sc.defs (Pipeline.defs Cert.KernelIdeal.pcfgs D)) bodies_eq

/-- The printed program keeps its arguments and its counters: its text is the idealized program's. -/
theorem frame_kernel : Cert.quiescent_Kernel := fun m ρ _ => by
  rw [show Cert.Kernel.defs (F := Bits) = Cert.KernelIdeal.defs (F := Bits) from defs_eq]
  exact (θ_run Cert.KernelIdeal.defs _ _).mono (fun _ h => ⟨fun c => (h.1 c).2.2.2.2.2, h.2⟩) (Slot.run_read (F := Bits) m ρ)

/-- Every claim. -/
theorem claim : Cert.Claim := ⟨Cert.Kernel.Gen.facts, Cert.KernelIdeal.Gen.facts, Cert.ReferenceIdeal.Gen.facts, Cert.Pre_ids_in_range.Gen.facts,
  frame_kernel, Slot.frame_ideal, Slot.frame_ideal_pre, Slot.frame_reference, Slot.frame_reference_pre, trivial, Slot.results⟩

end Cert.Proof

end
